-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v70) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal (hKernelIdeal := hKernelIdeal) (hReferenceIdeal := hReferenceIdeal)
    ∧ preserves_Mix_MixIdeal
    ∧ algebraic_MixIdeal_MixReferenceIdeal (hMixIdeal := hMixIdeal) (hMixReferenceIdeal := hMixReferenceIdeal)
-- ==== Kernel.lean ====
abbrev S1x2x7x721x1440 : Shape := ⟨5, ![1, 2, 7, 721, 1440]⟩
abbrev S6x64x64 : Shape := ⟨3, ![6, 64, 64]⟩
abbrev S7x1x1 : Shape := ⟨3, ![7, 1, 1]⟩
abbrev S221184 : Shape := ⟨1, ![221184]⟩
abbrev S4152960 : Shape := ⟨1, ![4152960]⟩
abbrev S14x18 : Shape := ⟨2, ![14, 18]⟩
abbrev S1x1x7x1x1 : Shape := ⟨5, ![1, 1, 7, 1, 1]⟩
abbrev S14x1038240 : Shape := ⟨2, ![14, 1038240]⟩
abbrev S_ : Shape := ⟨0, ![]⟩
abbrev S221184x1 : Shape := ⟨2, ![221184, 1]⟩
abbrev S1 : Shape := ⟨1, ![1]⟩
abbrev S1x1 : Shape := ⟨2, ![1, 1]⟩
abbrev S14x221184 : Shape := ⟨2, ![14, 221184]⟩
abbrev S1x221184 : Shape := ⟨2, ![1, 221184]⟩
abbrev S221184x14 : Shape := ⟨2, ![221184, 14]⟩
abbrev S24576x14 : Shape := ⟨2, ![24576, 14]⟩
abbrev S14x24576 : Shape := ⟨2, ![14, 24576]⟩
abbrev S1x2x7x6x64x64 : Shape := ⟨6, ![1, 2, 7, 6, 64, 64]⟩
abbrev S1x1x6x64x64 : Shape := ⟨5, ![1, 1, 6, 64, 64]⟩
abbrev S1x1x7x6x64x64 : Shape := ⟨6, ![1, 1, 7, 6, 64, 64]⟩
abbrev S1x7x6x64x64 : Shape := ⟨5, ![1, 7, 6, 64, 64]⟩
abbrev S1x8x6x64x64 : Shape := ⟨5, ![1, 8, 6, 64, 64]⟩
abbrev S1x16x6x64x64 : Shape := ⟨5, ![1, 16, 6, 64, 64]⟩
abbrev S1x18x6x64x64 : Shape := ⟨5, ![1, 18, 6, 64, 64]⟩
abbrev S1x6x64x64x14 : Shape := ⟨5, ![1, 6, 64, 64, 14]⟩
abbrev S1x14x6x64x64 : Shape := ⟨5, ![1, 14, 6, 64, 64]⟩
abbrev S4152960x1 : Shape := ⟨2, ![4152960, 1]⟩
abbrev S14x4152960 : Shape := ⟨2, ![14, 4152960]⟩
abbrev S1x4152960 : Shape := ⟨2, ![1, 4152960]⟩
abbrev S4152960x14 : Shape := ⟨2, ![4152960, 14]⟩
abbrev S1038240x14 : Shape := ⟨2, ![1038240, 14]⟩
abbrev S14x1x1038240 : Shape := ⟨3, ![14, 1, 1038240]⟩
abbrev S7x1 : Shape := ⟨2, ![7, 1]⟩
abbrev S7x1038240 : Shape := ⟨2, ![7, 1038240]⟩
abbrev S1x7x1x1038240 : Shape := ⟨4, ![1, 7, 1, 1038240]⟩
abbrev S2x7x1x1038240 : Shape := ⟨4, ![2, 7, 1, 1038240]⟩
abbrev S1x1x1038240 : Shape := ⟨3, ![1, 1, 1038240]⟩

abbrev nBuf : Space → Nat
  | .hbm => 163
  | .vmem => 8
  | .smem => 0
  | _ => 0

abbrev hbmTy0_0 (i : Nat) : BufTy := match i % 128 with
  | 0 => ⟨S1x2x7x721x1440, .f32⟩
  | 1 => ⟨S6x64x64, .f32⟩
  | 2 => ⟨S6x64x64, .f32⟩
  | 3 => ⟨S6x64x64, .f32⟩
  | 4 => ⟨S6x64x64, .f32⟩
  | 5 => ⟨S7x1x1, .f32⟩
  | 6 => ⟨S7x1x1, .f32⟩
  | 7 => ⟨S221184, .f32⟩
  | 8 => ⟨S4152960, .f32⟩
  | 9 => ⟨S14x18, .f32⟩
  | 10 => ⟨S221184, .i32⟩
  | 11 => ⟨S221184, .i32⟩
  | 12 => ⟨S4152960, .i32⟩
  | 13 => ⟨S4152960, .i32⟩
  | 14 => ⟨S1x1x7x1x1, .f32⟩
  | 15 => ⟨S1x2x7x721x1440, .f32⟩
  | 16 => ⟨S1x2x7x721x1440, .f32⟩
  | 17 => ⟨S1x1x7x1x1, .f32⟩
  | 18 => ⟨S1x2x7x721x1440, .f32⟩
  | 19 => ⟨S1x2x7x721x1440, .f32⟩
  | 20 => ⟨S14x1038240, .f32⟩
  | 21 => ⟨S_, .i32⟩
  | 22 => ⟨S221184, .i32⟩
  | 23 => ⟨S221184, .i1⟩
  | 24 => ⟨S_, .i32⟩
  | 25 => ⟨S221184, .i32⟩
  | 26 => ⟨S221184, .i32⟩
  | 27 => ⟨S221184, .i32⟩
  | 28 => ⟨S221184x1, .i32⟩
  | 29 => ⟨S1, .i32⟩
  | 30 => ⟨S_, .i32⟩
  | 31 => ⟨S221184x1, .i32⟩
  | 32 => ⟨S221184x1, .i1⟩
  | 33 => ⟨S1x1, .i32⟩
  | 34 => ⟨S221184x1, .i32⟩
  | 35 => ⟨S221184x1, .i1⟩
  | 36 => ⟨S221184x1, .i1⟩
  | 37 => ⟨S_, .i1⟩
  | 38 => ⟨S221184, .i1⟩
  | 39 => ⟨S14x221184, .f32⟩
  | 40 => ⟨S14x221184, .i1⟩
  | 41 => ⟨S_, .f32⟩
  | 42 => ⟨S14x221184, .f32⟩
  | 43 => ⟨S14x221184, .f32⟩
  | 44 => ⟨S1x221184, .f32⟩
  | 45 => ⟨S14x221184, .f32⟩
  | 46 => ⟨S14x221184, .f32⟩
  | 47 => ⟨S221184x14, .f32⟩
  | 48 => ⟨S_, .f32⟩
  | 49 => ⟨S24576x14, .f32⟩
  | 50 => ⟨S221184x1, .i32⟩
  | 51 => ⟨S24576x14, .f32⟩
  | 52 => ⟨S14x24576, .f32⟩
  | 53 => ⟨S1x2x7x6x64x64, .f32⟩
  | 54 => ⟨S_, .f32⟩
  | 55 => ⟨S6x64x64, .f32⟩
  | 56 => ⟨S6x64x64, .f32⟩
  | 57 => ⟨S6x64x64, .f32⟩
  | 58 => ⟨S_, .f32⟩
  | 59 => ⟨S6x64x64, .f32⟩
  | 60 => ⟨S6x64x64, .f32⟩
  | 61 => ⟨S_, .f32⟩
  | 62 => ⟨S6x64x64, .f32⟩
  | 63 => ⟨S6x64x64, .f32⟩
  | 64 => ⟨S6x64x64, .f32⟩
  | 65 => ⟨S6x64x64, .f32⟩
  | 66 => ⟨S_, .f32⟩
  | 67 => ⟨S6x64x64, .f32⟩
  | 68 => ⟨S6x64x64, .f32⟩
  | 69 => ⟨S_, .f32⟩
  | 70 => ⟨S6x64x64, .f32⟩
  | 71 => ⟨S6x64x64, .f32⟩
  | 72 => ⟨S1x1x6x64x64, .f32⟩
  | 73 => ⟨S1x1x7x6x64x64, .f32⟩
  | 74 => ⟨S1x7x6x64x64, .f32⟩
  | 75 => ⟨S1x8x6x64x64, .f32⟩
  | 76 => ⟨S_, .f32⟩
  | 77 => ⟨S6x64x64, .f32⟩
  | 78 => ⟨S6x64x64, .f32⟩
  | 79 => ⟨S6x64x64, .f32⟩
  | 80 => ⟨S_, .f32⟩
  | 81 => ⟨S6x64x64, .f32⟩
  | 82 => ⟨S6x64x64, .f32⟩
  | 83 => ⟨S_, .f32⟩
  | 84 => ⟨S6x64x64, .f32⟩
  | 85 => ⟨S6x64x64, .f32⟩
  | 86 => ⟨S6x64x64, .f32⟩
  | 87 => ⟨S6x64x64, .f32⟩
  | 88 => ⟨S_, .f32⟩
  | 89 => ⟨S6x64x64, .f32⟩
  | 90 => ⟨S6x64x64, .f32⟩
  | 91 => ⟨S_, .f32⟩
  | 92 => ⟨S6x64x64, .f32⟩
  | 93 => ⟨S6x64x64, .f32⟩
  | 94 => ⟨S1x1x6x64x64, .f32⟩
  | 95 => ⟨S1x1x7x6x64x64, .f32⟩
  | 96 => ⟨S1x7x6x64x64, .f32⟩
  | 97 => ⟨S1x8x6x64x64, .f32⟩
  | 98 => ⟨S1x16x6x64x64, .f32⟩
  | 99 => ⟨S1x1x6x64x64, .f32⟩
  | 100 => ⟨S_, .f32⟩
  | 101 => ⟨S6x64x64, .f32⟩
  | 102 => ⟨S6x64x64, .f32⟩
  | 103 => ⟨S_, .f32⟩
  | 104 => ⟨S6x64x64, .f32⟩
  | 105 => ⟨S6x64x64, .f32⟩
  | 106 => ⟨S1x1x6x64x64, .f32⟩
  | 107 => ⟨S1x18x6x64x64, .f32⟩
  | 108 => ⟨S1x6x64x64x14, .f32⟩
  | 109 => ⟨S1x14x6x64x64, .f32⟩
  | 110 => ⟨S1x7x6x64x64, .f32⟩
  | 111 => ⟨S1x7x6x64x64, .f32⟩
  | 112 => ⟨S1x1x7x6x64x64, .f32⟩
  | 113 => ⟨S1x1x7x6x64x64, .f32⟩
  | 114 => ⟨S1x2x7x6x64x64, .f32⟩
  | 115 => ⟨S14x24576, .f32⟩
  | 116 => ⟨S_, .i32⟩
  | 117 => ⟨S4152960, .i32⟩
  | 118 => ⟨S4152960, .i1⟩
  | 119 => ⟨S_, .i32⟩
  | 120 => ⟨S4152960, .i32⟩
  | 121 => ⟨S4152960, .i32⟩
  | 122 => ⟨S4152960, .i32⟩
  | 123 => ⟨S4152960x1, .i32⟩
  | 124 => ⟨S1, .i32⟩
  | 125 => ⟨S_, .i32⟩
  | 126 => ⟨S4152960x1, .i32⟩
  | 127 => ⟨S4152960x1, .i1⟩
  | _ => ⟨S1x2x7x721x1440, .f32⟩

abbrev hbmTy0_1 (i : Nat) : BufTy := match i % 128 with
  | 0 => ⟨S1x1, .i32⟩
  | 1 => ⟨S4152960x1, .i32⟩
  | 2 => ⟨S4152960x1, .i1⟩
  | 3 => ⟨S4152960x1, .i1⟩
  | 4 => ⟨S_, .i1⟩
  | 5 => ⟨S4152960, .i1⟩
  | 6 => ⟨S14x4152960, .f32⟩
  | 7 => ⟨S14x4152960, .i1⟩
  | 8 => ⟨S_, .f32⟩
  | 9 => ⟨S14x4152960, .f32⟩
  | 10 => ⟨S14x4152960, .f32⟩
  | 11 => ⟨S1x4152960, .f32⟩
  | 12 => ⟨S14x4152960, .f32⟩
  | 13 => ⟨S14x4152960, .f32⟩
  | 14 => ⟨S4152960x14, .f32⟩
  | 15 => ⟨S_, .f32⟩
  | 16 => ⟨S1038240x14, .f32⟩
  | 17 => ⟨S4152960x1, .i32⟩
  | 18 => ⟨S1038240x14, .f32⟩
  | 19 => ⟨S14x1038240, .f32⟩
  | 20 => ⟨S14x1x1038240, .f32⟩
  | 21 => ⟨S7x1, .f32⟩
  | 22 => ⟨S7x1038240, .f32⟩
  | 23 => ⟨S1x7x1x1038240, .f32⟩
  | 24 => ⟨S2x7x1x1038240, .f32⟩
  | 25 => ⟨S14x1038240, .f32⟩
  | 26 => ⟨S14x1x1038240, .f32⟩
  | 27 => ⟨S7x1, .f32⟩
  | 28 => ⟨S7x1038240, .f32⟩
  | 29 => ⟨S1x7x1x1038240, .f32⟩
  | 30 => ⟨S2x7x1x1038240, .f32⟩
  | 31 => ⟨S14x1038240, .f32⟩
  | 32 => ⟨S14x1x1038240, .f32⟩
  | 33 => ⟨S14x1x1038240, .f32⟩
  | 34 => ⟨S1x2x7x721x1440, .f32⟩
  | _ => ⟨S1x2x7x721x1440, .f32⟩

abbrev hbmTy (i : Nat) : BufTy := match i / 128 with
  | 0 => hbmTy0_0 i
  | 1 => hbmTy0_1 i
  | _ => ⟨S1x2x7x721x1440, .f32⟩

abbrev bufTy : (tb : Table) → Fin (tcTables nBuf tb) → BufTy
  | .hbm, ⟨i, _⟩ => hbmTy i
  | .local _ .vmem, ⟨0, _⟩ => ⟨S1x1x1038240, .f32⟩
  | .local _ .vmem, ⟨1, _⟩ => ⟨S1x1x1038240, .f32⟩
  | .local _ .vmem, ⟨2, _⟩ => ⟨S1x1x1038240, .f32⟩
  | .local _ .vmem, ⟨3, _⟩ => ⟨S1x1x1038240, .f32⟩
  | .local _ .vmem, ⟨4, _⟩ => ⟨S1x1x1038240, .f32⟩
  | .local _ .vmem, ⟨5, _⟩ => ⟨S1x1x1038240, .f32⟩
  | .local _ .vmem, ⟨6, _⟩ => ⟨S1x1x1038240, .f32⟩
  | .local _ .vmem, ⟨7, _⟩ => ⟨S1x1x1038240, .f32⟩
  | _, _ => ⟨S1x2x7x721x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_0 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_1 : Ref sig .tc := ⟨.hbm, 58, rfl⟩
abbrev main_v20 : Ref sig .tc := ⟨.hbm, 59, rfl⟩
abbrev main_v21 : Ref sig .tc := ⟨.hbm, 60, rfl⟩
abbrev main_cst_2 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_3 : Ref sig .tc := ⟨.hbm, 66, rfl⟩
abbrev main_v26 : Ref sig .tc := ⟨.hbm, 67, rfl⟩
abbrev main_v27 : Ref sig .tc := ⟨.hbm, 68, rfl⟩
abbrev main_cst_4 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_5 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_6 : Ref sig .tc := ⟨.hbm, 80, rfl⟩
abbrev main_v37 : Ref sig .tc := ⟨.hbm, 81, rfl⟩
abbrev main_v38 : Ref sig .tc := ⟨.hbm, 82, rfl⟩
abbrev main_cst_7 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_8 : Ref sig .tc := ⟨.hbm, 88, rfl⟩
abbrev main_v43 : Ref sig .tc := ⟨.hbm, 89, rfl⟩
abbrev main_v44 : Ref sig .tc := ⟨.hbm, 90, rfl⟩
abbrev main_cst_9 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_10 : Ref sig .tc := ⟨.hbm, 100, rfl⟩
abbrev main_v53 : Ref sig .tc := ⟨.hbm, 101, rfl⟩
abbrev main_v54 : Ref sig .tc := ⟨.hbm, 102, rfl⟩
abbrev main_cst_11 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_call1_c : Ref sig .tc := ⟨.hbm, 116, rfl⟩
abbrev main_call1_v0 : Ref sig .tc := ⟨.hbm, 117, rfl⟩
abbrev main_call1_v1 : Ref sig .tc := ⟨.hbm, 118, rfl⟩
abbrev main_call1_c_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_c_1 : Ref sig .tc := ⟨.hbm, 124, rfl⟩
abbrev main_call1_c_2 : Ref sig .tc := ⟨.hbm, 125, rfl⟩
abbrev main_call1_v6 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_c_3 : Ref sig .tc := ⟨.hbm, 132, rfl⟩
abbrev main_call1_v12 : Ref sig .tc := ⟨.hbm, 133, rfl⟩
abbrev main_call1_v13 : Ref sig .tc := ⟨.hbm, 134, rfl⟩
abbrev main_call1_v14 : Ref sig .tc := ⟨.hbm, 135, rfl⟩
abbrev main_call1_cst : Ref sig .tc := ⟨.hbm, 136, rfl⟩
abbrev main_call1_v15 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_12 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1038240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1038240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1038240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1038240 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x2x7x721x1440 : Shape := ⟨5, ![1, 2, 7, 721, 1440]⟩
abbrev S6x64x64 : Shape := ⟨3, ![6, 64, 64]⟩
abbrev S7x1x1 : Shape := ⟨3, ![7, 1, 1]⟩
abbrev S221184 : Shape := ⟨1, ![221184]⟩
abbrev S4152960 : Shape := ⟨1, ![4152960]⟩
abbrev S14x18 : Shape := ⟨2, ![14, 18]⟩
abbrev S1x1x7x1x1 : Shape := ⟨5, ![1, 1, 7, 1, 1]⟩
abbrev S14x1038240 : Shape := ⟨2, ![14, 1038240]⟩
abbrev S_ : Shape := ⟨0, ![]⟩
abbrev S221184x1 : Shape := ⟨2, ![221184, 1]⟩
abbrev S1 : Shape := ⟨1, ![1]⟩
abbrev S1x1 : Shape := ⟨2, ![1, 1]⟩
abbrev S14x221184 : Shape := ⟨2, ![14, 221184]⟩
abbrev S1x221184 : Shape := ⟨2, ![1, 221184]⟩
abbrev S221184x14 : Shape := ⟨2, ![221184, 14]⟩
abbrev S24576x14 : Shape := ⟨2, ![24576, 14]⟩
abbrev S14x24576 : Shape := ⟨2, ![14, 24576]⟩
abbrev S1x2x7x6x64x64 : Shape := ⟨6, ![1, 2, 7, 6, 64, 64]⟩
abbrev S1x1x6x64x64 : Shape := ⟨5, ![1, 1, 6, 64, 64]⟩
abbrev S1x1x7x6x64x64 : Shape := ⟨6, ![1, 1, 7, 6, 64, 64]⟩
abbrev S1x7x6x64x64 : Shape := ⟨5, ![1, 7, 6, 64, 64]⟩
abbrev S1x8x6x64x64 : Shape := ⟨5, ![1, 8, 6, 64, 64]⟩
abbrev S1x16x6x64x64 : Shape := ⟨5, ![1, 16, 6, 64, 64]⟩
abbrev S1x18x6x64x64 : Shape := ⟨5, ![1, 18, 6, 64, 64]⟩
abbrev S1x6x64x64x14 : Shape := ⟨5, ![1, 6, 64, 64, 14]⟩
abbrev S1x14x6x64x64 : Shape := ⟨5, ![1, 14, 6, 64, 64]⟩
abbrev S4152960x1 : Shape := ⟨2, ![4152960, 1]⟩
abbrev S14x4152960 : Shape := ⟨2, ![14, 4152960]⟩
abbrev S1x4152960 : Shape := ⟨2, ![1, 4152960]⟩
abbrev S4152960x14 : Shape := ⟨2, ![4152960, 14]⟩
abbrev S1038240x14 : Shape := ⟨2, ![1038240, 14]⟩

abbrev nBuf : Space → Nat
  | .hbm => 155
  | .vmem => 0
  | .smem => 0
  | _ => 0

abbrev hbmTy0_0 (i : Nat) : BufTy := match i % 128 with
  | 0 => ⟨S1x2x7x721x1440, .f32⟩
  | 1 => ⟨S6x64x64, .f32⟩
  | 2 => ⟨S6x64x64, .f32⟩
  | 3 => ⟨S6x64x64, .f32⟩
  | 4 => ⟨S6x64x64, .f32⟩
  | 5 => ⟨S7x1x1, .f32⟩
  | 6 => ⟨S7x1x1, .f32⟩
  | 7 => ⟨S221184, .f32⟩
  | 8 => ⟨S4152960, .f32⟩
  | 9 => ⟨S14x18, .f32⟩
  | 10 => ⟨S221184, .i32⟩
  | 11 => ⟨S221184, .i32⟩
  | 12 => ⟨S4152960, .i32⟩
  | 13 => ⟨S4152960, .i32⟩
  | 14 => ⟨S1x1x7x1x1, .f32⟩
  | 15 => ⟨S1x2x7x721x1440, .f32⟩
  | 16 => ⟨S1x2x7x721x1440, .f32⟩
  | 17 => ⟨S1x1x7x1x1, .f32⟩
  | 18 => ⟨S1x2x7x721x1440, .f32⟩
  | 19 => ⟨S1x2x7x721x1440, .f32⟩
  | 20 => ⟨S14x1038240, .f32⟩
  | 21 => ⟨S_, .i32⟩
  | 22 => ⟨S221184, .i32⟩
  | 23 => ⟨S221184, .i1⟩
  | 24 => ⟨S_, .i32⟩
  | 25 => ⟨S221184, .i32⟩
  | 26 => ⟨S221184, .i32⟩
  | 27 => ⟨S221184, .i32⟩
  | 28 => ⟨S221184x1, .i32⟩
  | 29 => ⟨S1, .i32⟩
  | 30 => ⟨S_, .i32⟩
  | 31 => ⟨S221184x1, .i32⟩
  | 32 => ⟨S221184x1, .i1⟩
  | 33 => ⟨S1x1, .i32⟩
  | 34 => ⟨S221184x1, .i32⟩
  | 35 => ⟨S221184x1, .i1⟩
  | 36 => ⟨S221184x1, .i1⟩
  | 37 => ⟨S_, .i1⟩
  | 38 => ⟨S221184, .i1⟩
  | 39 => ⟨S14x221184, .f32⟩
  | 40 => ⟨S14x221184, .i1⟩
  | 41 => ⟨S_, .f32⟩
  | 42 => ⟨S14x221184, .f32⟩
  | 43 => ⟨S14x221184, .f32⟩
  | 44 => ⟨S1x221184, .f32⟩
  | 45 => ⟨S14x221184, .f32⟩
  | 46 => ⟨S14x221184, .f32⟩
  | 47 => ⟨S221184x14, .f32⟩
  | 48 => ⟨S_, .f32⟩
  | 49 => ⟨S24576x14, .f32⟩
  | 50 => ⟨S221184x1, .i32⟩
  | 51 => ⟨S24576x14, .f32⟩
  | 52 => ⟨S14x24576, .f32⟩
  | 53 => ⟨S1x2x7x6x64x64, .f32⟩
  | 54 => ⟨S_, .f32⟩
  | 55 => ⟨S6x64x64, .f32⟩
  | 56 => ⟨S6x64x64, .f32⟩
  | 57 => ⟨S6x64x64, .f32⟩
  | 58 => ⟨S_, .f32⟩
  | 59 => ⟨S6x64x64, .f32⟩
  | 60 => ⟨S6x64x64, .f32⟩
  | 61 => ⟨S_, .f32⟩
  | 62 => ⟨S6x64x64, .f32⟩
  | 63 => ⟨S6x64x64, .f32⟩
  | 64 => ⟨S6x64x64, .f32⟩
  | 65 => ⟨S6x64x64, .f32⟩
  | 66 => ⟨S_, .f32⟩
  | 67 => ⟨S6x64x64, .f32⟩
  | 68 => ⟨S6x64x64, .f32⟩
  | 69 => ⟨S_, .f32⟩
  | 70 => ⟨S6x64x64, .f32⟩
  | 71 => ⟨S6x64x64, .f32⟩
  | 72 => ⟨S1x1x6x64x64, .f32⟩
  | 73 => ⟨S1x1x7x6x64x64, .f32⟩
  | 74 => ⟨S1x7x6x64x64, .f32⟩
  | 75 => ⟨S1x8x6x64x64, .f32⟩
  | 76 => ⟨S_, .f32⟩
  | 77 => ⟨S6x64x64, .f32⟩
  | 78 => ⟨S6x64x64, .f32⟩
  | 79 => ⟨S6x64x64, .f32⟩
  | 80 => ⟨S_, .f32⟩
  | 81 => ⟨S6x64x64, .f32⟩
  | 82 => ⟨S6x64x64, .f32⟩
  | 83 => ⟨S_, .f32⟩
  | 84 => ⟨S6x64x64, .f32⟩
  | 85 => ⟨S6x64x64, .f32⟩
  | 86 => ⟨S6x64x64, .f32⟩
  | 87 => ⟨S6x64x64, .f32⟩
  | 88 => ⟨S_, .f32⟩
  | 89 => ⟨S6x64x64, .f32⟩
  | 90 => ⟨S6x64x64, .f32⟩
  | 91 => ⟨S_, .f32⟩
  | 92 => ⟨S6x64x64, .f32⟩
  | 93 => ⟨S6x64x64, .f32⟩
  | 94 => ⟨S1x1x6x64x64, .f32⟩
  | 95 => ⟨S1x1x7x6x64x64, .f32⟩
  | 96 => ⟨S1x7x6x64x64, .f32⟩
  | 97 => ⟨S1x8x6x64x64, .f32⟩
  | 98 => ⟨S1x16x6x64x64, .f32⟩
  | 99 => ⟨S1x1x6x64x64, .f32⟩
  | 100 => ⟨S_, .f32⟩
  | 101 => ⟨S6x64x64, .f32⟩
  | 102 => ⟨S6x64x64, .f32⟩
  | 103 => ⟨S_, .f32⟩
  | 104 => ⟨S6x64x64, .f32⟩
  | 105 => ⟨S6x64x64, .f32⟩
  | 106 => ⟨S1x1x6x64x64, .f32⟩
  | 107 => ⟨S1x18x6x64x64, .f32⟩
  | 108 => ⟨S1x6x64x64x14, .f32⟩
  | 109 => ⟨S1x14x6x64x64, .f32⟩
  | 110 => ⟨S1x7x6x64x64, .f32⟩
  | 111 => ⟨S1x7x6x64x64, .f32⟩
  | 112 => ⟨S1x1x7x6x64x64, .f32⟩
  | 113 => ⟨S1x1x7x6x64x64, .f32⟩
  | 114 => ⟨S1x2x7x6x64x64, .f32⟩
  | 115 => ⟨S14x24576, .f32⟩
  | 116 => ⟨S_, .i32⟩
  | 117 => ⟨S4152960, .i32⟩
  | 118 => ⟨S4152960, .i1⟩
  | 119 => ⟨S_, .i32⟩
  | 120 => ⟨S4152960, .i32⟩
  | 121 => ⟨S4152960, .i32⟩
  | 122 => ⟨S4152960, .i32⟩
  | 123 => ⟨S4152960x1, .i32⟩
  | 124 => ⟨S1, .i32⟩
  | 125 => ⟨S_, .i32⟩
  | 126 => ⟨S4152960x1, .i32⟩
  | 127 => ⟨S4152960x1, .i1⟩
  | _ => ⟨S1x2x7x721x1440, .f32⟩

abbrev hbmTy0_1 (i : Nat) : BufTy := match i % 128 with
  | 0 => ⟨S1x1, .i32⟩
  | 1 => ⟨S4152960x1, .i32⟩
  | 2 => ⟨S4152960x1, .i1⟩
  | 3 => ⟨S4152960x1, .i1⟩
  | 4 => ⟨S_, .i1⟩
  | 5 => ⟨S4152960, .i1⟩
  | 6 => ⟨S14x4152960, .f32⟩
  | 7 => ⟨S14x4152960, .i1⟩
  | 8 => ⟨S_, .f32⟩
  | 9 => ⟨S14x4152960, .f32⟩
  | 10 => ⟨S14x4152960, .f32⟩
  | 11 => ⟨S1x4152960, .f32⟩
  | 12 => ⟨S14x4152960, .f32⟩
  | 13 => ⟨S14x4152960, .f32⟩
  | 14 => ⟨S4152960x14, .f32⟩
  | 15 => ⟨S_, .f32⟩
  | 16 => ⟨S1038240x14, .f32⟩
  | 17 => ⟨S4152960x1, .i32⟩
  | 18 => ⟨S1038240x14, .f32⟩
  | 19 => ⟨S14x1038240, .f32⟩
  | 20 => ⟨S1x2x7x721x1440, .f32⟩
  | 21 => ⟨S1x1x7x1x1, .f32⟩
  | 22 => ⟨S1x2x7x721x1440, .f32⟩
  | 23 => ⟨S1x2x7x721x1440, .f32⟩
  | 24 => ⟨S1x1x7x1x1, .f32⟩
  | 25 => ⟨S1x2x7x721x1440, .f32⟩
  | 26 => ⟨S1x2x7x721x1440, .f32⟩
  | _ => ⟨S1x2x7x721x1440, .f32⟩

abbrev hbmTy (i : Nat) : BufTy := match i / 128 with
  | 0 => hbmTy0_0 i
  | 1 => hbmTy0_1 i
  | _ => ⟨S1x2x7x721x1440, .f32⟩

abbrev bufTy : (tb : Table) → Fin (tcTables nBuf tb) → BufTy
  | .hbm, ⟨i, _⟩ => hbmTy i
  | _, _ => ⟨S1x2x7x721x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_0 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_1 : Ref sig .tc := ⟨.hbm, 58, rfl⟩
abbrev main_v20 : Ref sig .tc := ⟨.hbm, 59, rfl⟩
abbrev main_v21 : Ref sig .tc := ⟨.hbm, 60, rfl⟩
abbrev main_cst_2 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_3 : Ref sig .tc := ⟨.hbm, 66, rfl⟩
abbrev main_v26 : Ref sig .tc := ⟨.hbm, 67, rfl⟩
abbrev main_v27 : Ref sig .tc := ⟨.hbm, 68, rfl⟩
abbrev main_cst_4 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_5 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_6 : Ref sig .tc := ⟨.hbm, 80, rfl⟩
abbrev main_v37 : Ref sig .tc := ⟨.hbm, 81, rfl⟩
abbrev main_v38 : Ref sig .tc := ⟨.hbm, 82, rfl⟩
abbrev main_cst_7 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_8 : Ref sig .tc := ⟨.hbm, 88, rfl⟩
abbrev main_v43 : Ref sig .tc := ⟨.hbm, 89, rfl⟩
abbrev main_v44 : Ref sig .tc := ⟨.hbm, 90, rfl⟩
abbrev main_cst_9 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_10 : Ref sig .tc := ⟨.hbm, 100, rfl⟩
abbrev main_v53 : Ref sig .tc := ⟨.hbm, 101, rfl⟩
abbrev main_v54 : Ref sig .tc := ⟨.hbm, 102, rfl⟩
abbrev main_cst_11 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_call1_c : Ref sig .tc := ⟨.hbm, 116, rfl⟩
abbrev main_call1_v0 : Ref sig .tc := ⟨.hbm, 117, rfl⟩
abbrev main_call1_v1 : Ref sig .tc := ⟨.hbm, 118, rfl⟩
abbrev main_call1_c_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_c_1 : Ref sig .tc := ⟨.hbm, 124, rfl⟩
abbrev main_call1_c_2 : Ref sig .tc := ⟨.hbm, 125, rfl⟩
abbrev main_call1_v6 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_c_3 : Ref sig .tc := ⟨.hbm, 132, rfl⟩
abbrev main_call1_v12 : Ref sig .tc := ⟨.hbm, 133, rfl⟩
abbrev main_call1_v13 : Ref sig .tc := ⟨.hbm, 134, rfl⟩
abbrev main_call1_v14 : Ref sig .tc := ⟨.hbm, 135, rfl⟩
abbrev main_call1_cst : Ref sig .tc := ⟨.hbm, 136, rfl⟩
abbrev main_call1_v15 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_12 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩

abbrev nD : Nat := 1
abbrev τ : Topo := Topo.v7x

variable {F : FTy → Type} [FloatOps F]
-- ==== Mix.lean ====
abbrev S15x24576 : Shape := ⟨2, ![15, 24576]⟩
abbrev S6x64x64 : Shape := ⟨3, ![6, 64, 64]⟩
abbrev S7x1x1 : Shape := ⟨3, ![7, 1, 1]⟩
abbrev S14x18 : Shape := ⟨2, ![14, 18]⟩
abbrev S7 : Shape := ⟨1, ![7]⟩
abbrev S1x7 : Shape := ⟨2, ![1, 7]⟩
abbrev S2x7 : Shape := ⟨2, ![2, 7]⟩
abbrev S14 : Shape := ⟨1, ![14]⟩
abbrev S14x1 : Shape := ⟨2, ![14, 1]⟩
abbrev S1x24576 : Shape := ⟨2, ![1, 24576]⟩
abbrev S14x24576 : Shape := ⟨2, ![14, 24576]⟩
abbrev S14x7 : Shape := ⟨2, ![14, 7]⟩
abbrev S7x24576 : Shape := ⟨2, ![7, 24576]⟩

abbrev nBuf : Space → Nat
  | .hbm => 23
  | .vmem => 9
  | .smem => 0
  | _ => 0

abbrev bufTy : (tb : Table) → Fin (tcTables nBuf tb) → BufTy
  | .hbm, ⟨0, _⟩ => ⟨S15x24576, .f32⟩
  | .hbm, ⟨1, _⟩ => ⟨S6x64x64, .f32⟩
  | .hbm, ⟨2, _⟩ => ⟨S6x64x64, .f32⟩
  | .hbm, ⟨3, _⟩ => ⟨S6x64x64, .f32⟩
  | .hbm, ⟨4, _⟩ => ⟨S6x64x64, .f32⟩
  | .hbm, ⟨5, _⟩ => ⟨S7x1x1, .f32⟩
  | .hbm, ⟨6, _⟩ => ⟨S7x1x1, .f32⟩
  | .hbm, ⟨7, _⟩ => ⟨S14x18, .f32⟩
  | .hbm, ⟨8, _⟩ => ⟨S7, .f32⟩
  | .hbm, ⟨9, _⟩ => ⟨S7, .f32⟩
  | .hbm, ⟨10, _⟩ => ⟨S1x7, .f32⟩
  | .hbm, ⟨11, _⟩ => ⟨S2x7, .f32⟩
  | .hbm, ⟨12, _⟩ => ⟨S14, .f32⟩
  | .hbm, ⟨13, _⟩ => ⟨S14x1, .f32⟩
  | .hbm, ⟨14, _⟩ => ⟨S1x7, .f32⟩
  | .hbm, ⟨15, _⟩ => ⟨S2x7, .f32⟩
  | .hbm, ⟨16, _⟩ => ⟨S14, .f32⟩
  | .hbm, ⟨17, _⟩ => ⟨S14x1, .f32⟩
  | .hbm, ⟨18, _⟩ => ⟨S1x24576, .f32⟩
  | .hbm, ⟨19, _⟩ => ⟨S1x24576, .f32⟩
  | .hbm, ⟨20, _⟩ => ⟨S1x24576, .f32⟩
  | .hbm, ⟨21, _⟩ => ⟨S1x24576, .f32⟩
  | .hbm, ⟨22, _⟩ => ⟨S14x24576, .f32⟩
  | .local _ .vmem, ⟨0, _⟩ => ⟨S15x24576, .f32⟩
  | .local _ .vmem, ⟨1, _⟩ => ⟨S1x24576, .f32⟩
  | .local _ .vmem, ⟨2, _⟩ => ⟨S1x24576, .f32⟩
  | .local _ .vmem, ⟨3, _⟩ => ⟨S1x24576, .f32⟩
  | .local _ .vmem, ⟨4, _⟩ => ⟨S1x24576, .f32⟩
  | .local _ .vmem, ⟨5, _⟩ => ⟨S14x18, .f32⟩
  | .local _ .vmem, ⟨6, _⟩ => ⟨S14x1, .f32⟩
  | .local _ .vmem, ⟨7, _⟩ => ⟨S14x1, .f32⟩
  | .local _ .vmem, ⟨8, _⟩ => ⟨S14x24576, .f32⟩
  | _, _ => ⟨S15x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S15x24576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x24576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x24576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x24576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x24576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14x18 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14x24576 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== MixReferenceIdeal.lean ====
abbrev S15x24576 : Shape := ⟨2, ![15, 24576]⟩
abbrev S6x64x64 : Shape := ⟨3, ![6, 64, 64]⟩
abbrev S7x1x1 : Shape := ⟨3, ![7, 1, 1]⟩
abbrev S14x18 : Shape := ⟨2, ![14, 18]⟩
abbrev S14x24576 : Shape := ⟨2, ![14, 24576]⟩
abbrev S1x2x7x6x64x64 : Shape := ⟨6, ![1, 2, 7, 6, 64, 64]⟩
abbrev S1x24576 : Shape := ⟨2, ![1, 24576]⟩
abbrev S24576 : Shape := ⟨1, ![24576]⟩
abbrev S7x1x1x1 : Shape := ⟨4, ![7, 1, 1, 1]⟩
abbrev S1x6x64x64 : Shape := ⟨4, ![1, 6, 64, 64]⟩
abbrev S7x6x64x64 : Shape := ⟨4, ![7, 6, 64, 64]⟩
abbrev S1x1x7x6x64x64 : Shape := ⟨6, ![1, 1, 7, 6, 64, 64]⟩
abbrev S1x1x7x1x1x1 : Shape := ⟨6, ![1, 1, 7, 1, 1, 1]⟩
abbrev S_ : Shape := ⟨0, ![]⟩
abbrev S1x1x6x64x64 : Shape := ⟨5, ![1, 1, 6, 64, 64]⟩
abbrev S1x7x6x64x64 : Shape := ⟨5, ![1, 7, 6, 64, 64]⟩
abbrev S1x8x6x64x64 : Shape := ⟨5, ![1, 8, 6, 64, 64]⟩
abbrev S1x16x6x64x64 : Shape := ⟨5, ![1, 16, 6, 64, 64]⟩
abbrev S1x18x6x64x64 : Shape := ⟨5, ![1, 18, 6, 64, 64]⟩
abbrev S1x6x64x64x14 : Shape := ⟨5, ![1, 6, 64, 64, 14]⟩
abbrev S1x14x6x64x64 : Shape := ⟨5, ![1, 14, 6, 64, 64]⟩

abbrev nBuf : Space → Nat
  | .hbm => 91
  | .vmem => 0
  | .smem => 0
  | _ => 0

abbrev bufTy : (tb : Table) → Fin (tcTables nBuf tb) → BufTy
  | .hbm, ⟨0, _⟩ => ⟨S15x24576, .f32⟩
  | .hbm, ⟨1, _⟩ => ⟨S6x64x64, .f32⟩
  | .hbm, ⟨2, _⟩ => ⟨S6x64x64, .f32⟩
  | .hbm, ⟨3, _⟩ => ⟨S6x64x64, .f32⟩
  | .hbm, ⟨4, _⟩ => ⟨S6x64x64, .f32⟩
  | .hbm, ⟨5, _⟩ => ⟨S7x1x1, .f32⟩
  | .hbm, ⟨6, _⟩ => ⟨S7x1x1, .f32⟩
  | .hbm, ⟨7, _⟩ => ⟨S14x18, .f32⟩
  | .hbm, ⟨8, _⟩ => ⟨S14x24576, .f32⟩
  | .hbm, ⟨9, _⟩ => ⟨S1x2x7x6x64x64, .f32⟩
  | .hbm, ⟨10, _⟩ => ⟨S1x24576, .f32⟩
  | .hbm, ⟨11, _⟩ => ⟨S24576, .f32⟩
  | .hbm, ⟨12, _⟩ => ⟨S6x64x64, .f32⟩
  | .hbm, ⟨13, _⟩ => ⟨S7x1x1x1, .f32⟩
  | .hbm, ⟨14, _⟩ => ⟨S1x6x64x64, .f32⟩
  | .hbm, ⟨15, _⟩ => ⟨S7x6x64x64, .f32⟩
  | .hbm, ⟨16, _⟩ => ⟨S7x6x64x64, .f32⟩
  | .hbm, ⟨17, _⟩ => ⟨S7x6x64x64, .f32⟩
  | .hbm, ⟨18, _⟩ => ⟨S1x1x7x6x64x64, .f32⟩
  | .hbm, ⟨19, _⟩ => ⟨S1x2x7x6x64x64, .f32⟩
  | .hbm, ⟨20, _⟩ => ⟨S1x2x7x6x64x64, .f32⟩
  | .hbm, ⟨21, _⟩ => ⟨S7x1x1x1, .f32⟩
  | .hbm, ⟨22, _⟩ => ⟨S1x1x7x1x1x1, .f32⟩
  | .hbm, ⟨23, _⟩ => ⟨S1x2x7x6x64x64, .f32⟩
  | .hbm, ⟨24, _⟩ => ⟨S1x2x7x6x64x64, .f32⟩
  | .hbm, ⟨25, _⟩ => ⟨S_, .f32⟩
  | .hbm, ⟨26, _⟩ => ⟨S6x64x64, .f32⟩
  | .hbm, ⟨27, _⟩ => ⟨S6x64x64, .f32⟩
  | .hbm, ⟨28, _⟩ => ⟨S6x64x64, .f32⟩
  | .hbm, ⟨29, _⟩ => ⟨S_, .f32⟩
  | .hbm, ⟨30, _⟩ => ⟨S6x64x64, .f32⟩
  | .hbm, ⟨31, _⟩ => ⟨S6x64x64, .f32⟩
  | .hbm, ⟨32, _⟩ => ⟨S_, .f32⟩
  | .hbm, ⟨33, _⟩ => ⟨S6x64x64, .f32⟩
  | .hbm, ⟨34, _⟩ => ⟨S6x64x64, .f32⟩
  | .hbm, ⟨35, _⟩ => ⟨S6x64x64, .f32⟩
  | .hbm, ⟨36, _⟩ => ⟨S6x64x64, .f32⟩
  | .hbm, ⟨37, _⟩ => ⟨S_, .f32⟩
  | .hbm, ⟨38, _⟩ => ⟨S6x64x64, .f32⟩
  | .hbm, ⟨39, _⟩ => ⟨S6x64x64, .f32⟩
  | .hbm, ⟨40, _⟩ => ⟨S_, .f32⟩
  | .hbm, ⟨41, _⟩ => ⟨S6x64x64, .f32⟩
  | .hbm, ⟨42, _⟩ => ⟨S6x64x64, .f32⟩
  | .hbm, ⟨43, _⟩ => ⟨S1x1x6x64x64, .f32⟩
  | .hbm, ⟨44, _⟩ => ⟨S1x1x7x6x64x64, .f32⟩
  | .hbm, ⟨45, _⟩ => ⟨S1x7x6x64x64, .f32⟩
  | .hbm, ⟨46, _⟩ => ⟨S1x8x6x64x64, .f32⟩
  | .hbm, ⟨47, _⟩ => ⟨S_, .f32⟩
  | .hbm, ⟨48, _⟩ => ⟨S6x64x64, .f32⟩
  | .hbm, ⟨49, _⟩ => ⟨S6x64x64, .f32⟩
  | .hbm, ⟨50, _⟩ => ⟨S6x64x64, .f32⟩
  | .hbm, ⟨51, _⟩ => ⟨S_, .f32⟩
  | .hbm, ⟨52, _⟩ => ⟨S6x64x64, .f32⟩
  | .hbm, ⟨53, _⟩ => ⟨S6x64x64, .f32⟩
  | .hbm, ⟨54, _⟩ => ⟨S_, .f32⟩
  | .hbm, ⟨55, _⟩ => ⟨S6x64x64, .f32⟩
  | .hbm, ⟨56, _⟩ => ⟨S6x64x64, .f32⟩
  | .hbm, ⟨57, _⟩ => ⟨S6x64x64, .f32⟩
  | .hbm, ⟨58, _⟩ => ⟨S6x64x64, .f32⟩
  | .hbm, ⟨59, _⟩ => ⟨S_, .f32⟩
  | .hbm, ⟨60, _⟩ => ⟨S6x64x64, .f32⟩
  | .hbm, ⟨61, _⟩ => ⟨S6x64x64, .f32⟩
  | .hbm, ⟨62, _⟩ => ⟨S_, .f32⟩
  | .hbm, ⟨63, _⟩ => ⟨S6x64x64, .f32⟩
  | .hbm, ⟨64, _⟩ => ⟨S6x64x64, .f32⟩
  | .hbm, ⟨65, _⟩ => ⟨S1x1x6x64x64, .f32⟩
  | .hbm, ⟨66, _⟩ => ⟨S1x1x7x6x64x64, .f32⟩
  | .hbm, ⟨67, _⟩ => ⟨S1x7x6x64x64, .f32⟩
  | .hbm, ⟨68, _⟩ => ⟨S1x8x6x64x64, .f32⟩
  | .hbm, ⟨69, _⟩ => ⟨S1x16x6x64x64, .f32⟩
  | .hbm, ⟨70, _⟩ => ⟨S1x1x6x64x64, .f32⟩
  | .hbm, ⟨71, _⟩ => ⟨S_, .f32⟩
  | .hbm, ⟨72, _⟩ => ⟨S6x64x64, .f32⟩
  | .hbm, ⟨73, _⟩ => ⟨S6x64x64, .f32⟩
  | .hbm, ⟨74, _⟩ => ⟨S_, .f32⟩
  | .hbm, ⟨75, _⟩ => ⟨S6x64x64, .f32⟩
  | .hbm, ⟨76, _⟩ => ⟨S6x64x64, .f32⟩
  | .hbm, ⟨77, _⟩ => ⟨S1x1x6x64x64, .f32⟩
  | .hbm, ⟨78, _⟩ => ⟨S1x18x6x64x64, .f32⟩
  | .hbm, ⟨79, _⟩ => ⟨S1x6x64x64x14, .f32⟩
  | .hbm, ⟨80, _⟩ => ⟨S1x14x6x64x64, .f32⟩
  | .hbm, ⟨81, _⟩ => ⟨S1x7x6x64x64, .f32⟩
  | .hbm, ⟨82, _⟩ => ⟨S1x7x6x64x64, .f32⟩
  | .hbm, ⟨83, _⟩ => ⟨S1x1x7x6x64x64, .f32⟩
  | .hbm, ⟨84, _⟩ => ⟨S1x1x7x6x64x64, .f32⟩
  | .hbm, ⟨85, _⟩ => ⟨S1x2x7x6x64x64, .f32⟩
  | .hbm, ⟨86, _⟩ => ⟨S7x1x1x1, .f32⟩
  | .hbm, ⟨87, _⟩ => ⟨S1x1x7x1x1x1, .f32⟩
  | .hbm, ⟨88, _⟩ => ⟨S1x2x7x6x64x64, .f32⟩
  | .hbm, ⟨89, _⟩ => ⟨S1x2x7x6x64x64, .f32⟩
  | .hbm, ⟨90, _⟩ => ⟨S14x24576, .f32⟩
  | _, _ => ⟨S15x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Proof.Denorm.lean ====
/-
  What the region leaves in its output array.

  The region runs over 14 rows of 1038240 points.  At row `t` its body multiplies the row of the first operand by the
  row of the second and adds the row of the third; the four windows take the same row, so the whole output array is the
  pointwise `first * second + third`.
-/
module

public import proofs.«01_k».proof.Proof.Gen.KernelIdeal.Frame
public import Idealize.ShloMosaic.Lib.Pipeline.ValueKit

@[expose] public section

noncomputable section

namespace Cert.KernelIdeal.Denorm

open Cert.KernelIdeal Cert.KernelIdeal.Gen Idealize.ShloMosaic Idealize.ShloMosaic.TcCoe Idealize.SL.Sem

variable {F : FTy → Type} [FloatOps F]

/-- One block: the body, given row `t` of three arrays, produces row `t` of `X * Y + Z`. -/
theorem row_eq (X Y Z : FVec F S14x1x1038240 .f32) (t : Fin cfg0.N) (y : S1x1x1038240.Idx) :
    k0_pay1 (((cfg0.win 0).blk t).view.read (Elt F) X) (((cfg0.win 1).blk t).view.read (Elt F) Y)
      (((cfg0.win 2).blk t).view.read (Elt F) Z) y
      = addf (mulf X Y) Z (((View.whole main_v89).slice (win0_3.rect t)).emb y) := by
  unfold k0_pay1
  simp only [shapeCast_self]
  rfl

variable (m : (ℓ : Loc nD τ sig) → Buf (Elt F) ℓ)

/-- The pointwise `first * second + third` of the region's three operands as the region finds them. -/
def affine (c : Dev nD) : FVec F S14x1x1038240 .f32 :=
  addf (mulf (V m c main_v76 : FVec F S14x1x1038240 .f32) (V m c main_v82 : FVec F S14x1x1038240 .f32))
    (V m c main_v88 : FVec F S14x1x1038240 .f32)

/-- The block `iblk` names is the window's block of the operand. -/
theorem row_affine (c : Dev nD) (t : Fin cfg0.N) (y : S1x1x1038240.Idx) :
    k0_pay1 (iblk m c 0 t) (iblk m c 1 t) (iblk m c 2 t) y
      = affine m c (((View.whole main_v89).slice (win0_3.rect t)).emb y) :=
  row_eq (V m c main_v76) (V m c main_v82) (V m c main_v88) t y

/-- After the last row the output array is `affine`: every point lies in the row written at its own step. -/
theorem final (c : Dev nD) : (dats m 0 c).arrAt 3 cfg0.N = affine m c := by
  refine (dats m 0 c).arrAt_eq_of_covers 3 _ (by decide +kernel) fun t hf y => ?_
  blk_simp
  rw [after0_3]
  frame_out
  exact row_affine m c t y

end Cert.KernelIdeal.Denorm

end
-- ==== Proof.Operands.lean ====
/-
  The three operands of the region, as terms of the program's arguments.

  The program computes, before its region, the normalised and remapped field, the mixed channels and their remap back
  to the latitude-longitude grid: the same operations as the reference up to the reference's `val_main_v75`.  Then it
  spreads the two per-channel constants (scale and centre) over the points of the grid.
-/
module

public import proofs.«01_k».proof.Proof.Gen.KernelIdeal.Frame
public import proofs.«01_k».proof.Proof.Gen.ReferenceIdeal.Read
public import Idealize.ShloMosaic.Lib.Claim

@[expose] public section

noncomputable section

namespace Cert.KernelIdeal.Operands

open Cert.KernelIdeal Cert.KernelIdeal.Gen Idealize.ShloMosaic Idealize.ShloMosaic.TcCoe Idealize.SL.Sem

variable {F : FTy → Type} [FloatOps F]

/-! ## The four concatenations, each under a name

A concatenation's operands stand in a list of pairs whose shapes a later argument mentions; applied by name they are
plain arguments. -/

/-- Seven field channels and the insolation channel. -/
def joinInsolation (a : FVec F S1x7x6x64x64 .f32) (b : FVec F S1x1x6x64x64 .f32) : FVec F S1x8x6x64x64 .f32 :=
  concatenate S1x8x6x64x64 1 [⟨S1x7x6x64x64, a⟩, ⟨S1x1x6x64x64, b⟩]
    concatenates_S1x7x6x64x64_S1x1x6x64x64_S1x8x6x64x64_d1

/-- The channels of the two time steps. -/
def joinSteps (a b : FVec F S1x8x6x64x64 .f32) : FVec F S1x16x6x64x64 .f32 :=
  concatenate S1x16x6x64x64 1 [⟨S1x8x6x64x64, a⟩, ⟨S1x8x6x64x64, b⟩]
    concatenates_S1x8x6x64x64_S1x8x6x64x64_S1x16x6x64x64_d1

/-- The sixteen channels and the two constant fields. -/
def joinFields (a : FVec F S1x16x6x64x64 .f32) (b c : FVec F S1x1x6x64x64 .f32) : FVec F S1x18x6x64x64 .f32 :=
  concatenate S1x18x6x64x64 1 [⟨S1x16x6x64x64, a⟩, ⟨S1x1x6x64x64, b⟩, ⟨S1x1x6x64x64, c⟩]
    concatenates_S1x16x6x64x64_S1x1x6x64x64_S1x1x6x64x64_S1x18x6x64x64_d1

/-- The two output steps. -/
def joinOut (a b : FVec F S1x1x7x6x64x64 .f32) : FVec F S1x2x7x6x64x64 .f32 :=
  concatenate S1x2x7x6x64x64 1 [⟨S1x1x7x6x64x64, a⟩, ⟨S1x1x7x6x64x64, b⟩]
    concatenates_S1x1x7x6x64x64_S1x1x7x6x64x64_S1x2x7x6x64x64_d1

/-- The program's operation is `joinInsolation`. -/
theorem joinInsolation_eq : (fun a b => concatenate S1x8x6x64x64 1 [⟨S1x7x6x64x64, a⟩, ⟨S1x1x6x64x64, b⟩]
    concatenates_S1x7x6x64x64_S1x1x6x64x64_S1x8x6x64x64_d1) = joinInsolation (F := F) := (rfl)

/-- The program's operation is `joinSteps`. -/
theorem joinSteps_eq : (fun a b => concatenate S1x16x6x64x64 1 [⟨S1x8x6x64x64, a⟩, ⟨S1x8x6x64x64, b⟩]
    concatenates_S1x8x6x64x64_S1x8x6x64x64_S1x16x6x64x64_d1) = joinSteps (F := F) := (rfl)

/-- The program's operation is `joinFields` of its three operands. -/
theorem joinFields_eq : (fun u : (∀ i, (![main_v51, main_v52, main_v57] i : Ref sig .tc).ty.Contents (Elt F)) =>
    (concatenate S1x18x6x64x64 1 [⟨S1x16x6x64x64, (u 0 : (⟨S1x16x6x64x64, .f32⟩ : BufTy).Contents (Elt F))⟩,
      ⟨S1x1x6x64x64, (u 1 : (⟨S1x1x6x64x64, .f32⟩ : BufTy).Contents (Elt F))⟩,
      ⟨S1x1x6x64x64, (u 2 : (⟨S1x1x6x64x64, .f32⟩ : BufTy).Contents (Elt F))⟩]
      concatenates_S1x16x6x64x64_S1x1x6x64x64_S1x1x6x64x64_S1x18x6x64x64_d1 :
      (⟨S1x18x6x64x64, .f32⟩ : BufTy).Contents (Elt F)))
    = fun u => joinFields (F := F) (u 0) (u 1) (u 2) := (rfl)

/-- The program's operation is `joinOut`. -/
theorem joinOut_eq : (fun a b => concatenate S1x2x7x6x64x64 1 [⟨S1x1x7x6x64x64, a⟩, ⟨S1x1x7x6x64x64, b⟩]
    concatenates_S1x1x7x6x64x64_S1x1x7x6x64x64_S1x2x7x6x64x64_d1) = joinOut (F := F) := (rfl)

variable (m : (ℓ : Loc nD τ sig) → Buf (Elt F) ℓ)

/-- What a per-channel constant becomes: repeated over the two steps and over the points of the grid. -/
def spread (x : FVec F S7x1x1 .f32) : FVec F S14x1x1038240 .f32 :=
  shapeCast S14x1x1038240 (shapeCast S14x1038240 (broadcastInDim S2x7x1x1038240 ![0, 1, 2, 3]
    bcast_S1x7x1x1038240_S2x7x1x1038240_0_1_2_3 (shapeCast S1x7x1x1038240 (broadcastInDim S7x1038240 ![0, 1]
      bcast_S7x1_S7x1038240_0_1 (shapeCast S7x1 x shapeCasts_S7x1x1_S7x1)) shapeCasts_S7x1038240_S1x7x1x1038240))
    shapeCasts_S2x7x1x1038240_S14x1038240) shapeCasts_S14x1038240_S14x1x1038240

/-- The second operand is the spread scale. -/
theorem scale_eq (c : Dev nD) :
    (V m c main_v82 : FVec F S14x1x1038240 .f32) = spread (m ((c.tc : Thread nD τ).loc main_arg6)) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.ternary, StableHlo.TRef.unary, StableHlo.TRef.toBuf, StableHlo.TRef.ofBuf, cast_eq]
  after_results_simp
  rfl

/-- The third operand is the spread centre. -/
theorem center_eq (c : Dev nD) :
    (V m c main_v88 : FVec F S14x1x1038240 .f32) = spread (m ((c.tc : Thread nD τ).loc main_arg5)) := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.ternary, StableHlo.TRef.unary, StableHlo.TRef.toBuf, StableHlo.TRef.ofBuf, cast_eq]
  after_results_simp
  rfl

/-- The field the reference has after its second remap, of the program's arguments. -/
abbrev field (c : Dev nD) : FVec F S14x1038240 .f32 :=
  Cert.ReferenceIdeal.Read.val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

set_option maxRecDepth 8192 in
set_option maxHeartbeats 8000000 in
/-- The first operand is the remapped field. -/
theorem field_eq (c : Dev nD) :
    (V m c main_v76 : FVec F S14x1x1038240 .f32)
      = shapeCast S14x1x1038240 (field m c) shapeCasts_S14x1038240_S14x1x1038240 := by
  simp only [V, V0, hostOps0, hostOps0_1, hostOps0_2, hostOps0_3, hostOps0_4, List.flatten_cons, List.flatten_nil,
    List.append_nil, List.cons_append, List.nil_append, StableHlo.TRef.binary, StableHlo.TRef.nullary,
    StableHlo.TRef.ternary, StableHlo.TRef.unary, StableHlo.TRef.toBuf, StableHlo.TRef.ofBuf, cast_eq]
  rw [joinInsolation_eq, joinSteps_eq, joinFields_eq, joinOut_eq]
  after_results_simp
  try dsimp only [Matrix.cons_val]
  try after_results_simp
  rfl

end Cert.KernelIdeal.Operands

end
-- ==== Proof.Result.lean ====
/-
  The program's result, and the reference's, at a point.

  After the region the program only gives the output array its five-axis shape.  At step `s`, channel `ch`, latitude
  `i`, longitude `j` both results read the remapped field at row `s * 7 + ch`, point `i * 1440 + j`, and the two
  constants of channel `ch`; the program multiplies the field by the scale, the reference the scale by the field.
-/
module

public import proofs.«01_k».proof.Proof.Denorm
public import proofs.«01_k».proof.Proof.Operands

@[expose] public section

noncomputable section

namespace Cert.KernelIdeal.Result

open Cert.KernelIdeal Cert.KernelIdeal.Gen Idealize.ShloMosaic Idealize.ShloMosaic.TcCoe Idealize.SL.Sem

variable {F : FTy → Type} [FloatOps F]

/-! ## The places a result point reads -/

/-- The channel's place in a per-channel constant. -/
abbrev chan (j : S1x2x7x721x1440.Idx) : S7x1x1.Idx := fun a => match a with
  | ⟨0, _⟩ => ⟨(j 2).val, (j 2).isLt⟩
  | ⟨1, _⟩ => ⟨0, Nat.one_pos⟩
  | ⟨2, _⟩ => ⟨0, Nat.one_pos⟩

/-- There are fourteen rows. -/
theorem row_lt (j : S1x2x7x721x1440.Idx) : (j 1).val * 7 + (j 2).val < 14 := by
  have h1 : (j 1).val < 2 := (j 1).isLt
  have h2 : (j 2).val < 7 := (j 2).isLt
  omega

/-- A row has 1038240 points. -/
theorem point_lt (j : S1x2x7x721x1440.Idx) : (j 3).val * 1440 + (j 4).val < 1038240 := by
  have h3 : (j 3).val < 721 := (j 3).isLt
  have h4 : (j 4).val < 1440 := (j 4).isLt
  omega

/-- The row and the point of the remapped field. -/
abbrev flat (j : S1x2x7x721x1440.Idx) : S14x1038240.Idx := fun a => match a with
  | ⟨0, _⟩ => ⟨(j 1).val * 7 + (j 2).val, row_lt j⟩
  | ⟨1, _⟩ => ⟨(j 3).val * 1440 + (j 4).val, point_lt j⟩

/-- The same place with the unit axis between. -/
abbrev flat3 (j : S1x2x7x721x1440.Idx) : S14x1x1038240.Idx := fun a => match a with
  | ⟨0, _⟩ => ⟨(j 1).val * 7 + (j 2).val, row_lt j⟩
  | ⟨1, _⟩ => ⟨0, Nat.one_pos⟩
  | ⟨2, _⟩ => ⟨(j 3).val * 1440 + (j 4).val, point_lt j⟩

/-- Step, channel, a unit axis, point. -/
abbrev split4 (j : S1x2x7x721x1440.Idx) : S2x7x1x1038240.Idx := fun a => match a with
  | ⟨0, _⟩ => ⟨(j 1).val, (j 1).isLt⟩
  | ⟨1, _⟩ => ⟨(j 2).val, (j 2).isLt⟩
  | ⟨2, _⟩ => ⟨0, Nat.one_pos⟩
  | ⟨3, _⟩ => ⟨(j 3).val * 1440 + (j 4).val, point_lt j⟩

/-- The same for a single step. -/
abbrev single4 (j : S1x2x7x721x1440.Idx) : S1x7x1x1038240.Idx := fun a => match a with
  | ⟨0, _⟩ => ⟨0, Nat.one_pos⟩
  | ⟨1, _⟩ => ⟨(j 2).val, (j 2).isLt⟩
  | ⟨2, _⟩ => ⟨0, Nat.one_pos⟩
  | ⟨3, _⟩ => ⟨(j 3).val * 1440 + (j 4).val, point_lt j⟩

/-- Channel and point. -/
abbrev pair2 (j : S1x2x7x721x1440.Idx) : S7x1038240.Idx := fun a => match a with
  | ⟨0, _⟩ => ⟨(j 2).val, (j 2).isLt⟩
  | ⟨1, _⟩ => ⟨(j 3).val * 1440 + (j 4).val, point_lt j⟩

/-- The channel in a two-axis constant. -/
abbrev chan2 (j : S1x2x7x721x1440.Idx) : S7x1.Idx := fun a => match a with
  | ⟨0, _⟩ => ⟨(j 2).val, (j 2).isLt⟩
  | ⟨1, _⟩ => ⟨0, Nat.one_pos⟩

/-! ## The operands there -/

/-- A spread constant is, at every point of a row, its channel's entry. -/
theorem spread_apply (x : FVec F S7x1x1 .f32) (j : S1x2x7x721x1440.Idx) :
    Operands.spread x (flat3 j) = x (chan j) := by
  unfold Operands.spread
  refine (shapeCast_apply _ _ (flat3 j) (flat j) ?_).trans <|
    (shapeCast_apply _ _ (flat j) (split4 j) ?_).trans <|
    (broadcastInDim_apply _ _ _ (split4 j) (single4 j) (fun a => ?_)).trans <|
    (shapeCast_apply _ _ (single4 j) (pair2 j) ?_).trans <|
    (broadcastInDim_apply _ _ _ (pair2 j) (chan2 j) (fun a => ?_)).trans <|
    shapeCast_apply _ _ (chan2 j) (chan j) ?_
  · rewrite [Shape.rowMajor_val_two, Shape.rowMajor_val_three]
    show ((j 1).val * 7 + (j 2).val) * 1038240 + ((j 3).val * 1440 + (j 4).val)
      = (((j 1).val * 7 + (j 2).val) * 1 + 0) * 1038240 + ((j 3).val * 1440 + (j 4).val)
    omega
  · rewrite [Shape.rowMajor_val_four, Shape.rowMajor_val_two]
    show (((j 1).val * 7 + (j 2).val) * 1 + 0) * 1038240 + ((j 3).val * 1440 + (j 4).val)
      = ((j 1).val * 7 + (j 2).val) * 1038240 + ((j 3).val * 1440 + (j 4).val)
    omega
  · exact match a with
    | ⟨0, _⟩ => by show 0 = if (1 : Nat) = 1 then 0 else (j 1).val; rw [if_pos rfl]
    | ⟨1, _⟩ => by show (j 2).val = if (7 : Nat) = 1 then 0 else (j 2).val; rw [if_neg (by decide)]
    | ⟨2, _⟩ => by show 0 = if (1 : Nat) = 1 then 0 else 0; rw [if_pos rfl]
    | ⟨3, _⟩ => by
      show (j 3).val * 1440 + (j 4).val = if (1038240 : Nat) = 1 then 0 else (j 3).val * 1440 + (j 4).val
      rw [if_neg (by decide)]
  · rewrite [Shape.rowMajor_val_two, Shape.rowMajor_val_four]
    show (j 2).val * 1038240 + ((j 3).val * 1440 + (j 4).val)
      = ((0 * 7 + (j 2).val) * 1 + 0) * 1038240 + ((j 3).val * 1440 + (j 4).val)
    omega
  · exact match a with
    | ⟨0, _⟩ => by show (j 2).val = if (7 : Nat) = 1 then 0 else (j 2).val; rw [if_neg (by decide)]
    | ⟨1, _⟩ => by
      show 0 = if (1 : Nat) = 1 then 0 else (j 3).val * 1440 + (j 4).val
      rw [if_pos rfl]
  · rewrite [Shape.rowMajor_val_three, Shape.rowMajor_val_two]
    show ((j 2).val * 1 + 0) * 1 + 0 = (j 2).val * 1 + 0
    omega

/-- The remapped field with the unit axis, at a row and point. -/
theorem field_apply (x : FVec F S14x1038240 .f32) (j : S1x2x7x721x1440.Idx) :
    shapeCast S14x1x1038240 x shapeCasts_S14x1038240_S14x1x1038240 (flat3 j) = x (flat j) := by
  refine shapeCast_apply _ _ (flat3 j) (flat j) ?_
  rewrite [Shape.rowMajor_val_two, Shape.rowMajor_val_three]
  show ((j 1).val * 7 + (j 2).val) * 1038240 + ((j 3).val * 1440 + (j 4).val)
    = (((j 1).val * 7 + (j 2).val) * 1 + 0) * 1038240 + ((j 3).val * 1440 + (j 4).val)
  omega

/-- The five-axis result reads the output array at its row and point. -/
theorem reshape_apply (x : FVec F S14x1x1038240 .f32) (j : S1x2x7x721x1440.Idx) :
    shapeCast S1x2x7x721x1440 x shapeCasts_S14x1x1038240_S1x2x7x721x1440 j = x (flat3 j) := by
  refine shapeCast_apply _ _ j (flat3 j) ?_
  rewrite [Shape.rowMajor_val_three, Shape.rowMajor_val_five]
  have h0 : (j 0).val < 1 := (j 0).isLt
  show (((j 1).val * 7 + (j 2).val) * 1 + 0) * 1038240 + ((j 3).val * 1440 + (j 4).val)
    = ((((j 0).val * 2 + (j 1).val) * 7 + (j 2).val) * 721 + (j 3).val) * 1440 + (j 4).val
  omega

/-! ## The program's result -/

variable (m : (ℓ : Loc nD τ sig) → Buf (Elt F) ℓ)

/-- What the program leaves in its result: the region's output array in the five-axis shape. -/
def out (c : Dev nD) : FVec F S1x2x7x721x1440 .f32 :=
  shapeCast S1x2x7x721x1440 (Denorm.affine m c) shapeCasts_S14x1x1038240_S1x2x7x721x1440

/-- The operation after the region: it reads the output array and gives it the five-axis shape. -/
theorem last_eq (W : Valuation τ sig (Elt F)) :
    StableHlo.after (List.flatten [hostOps1]) W (Proc.devRef .tc main_v90)
      = (shapeCast S1x2x7x721x1440 (W (Proc.devRef .tc main_v89) : FVec F S14x1x1038240 .f32)
        shapeCasts_S14x1x1038240_S1x2x7x721x1440 : FVec F S1x2x7x721x1440 .f32) := by
  simp only [hostOps1, List.flatten_cons, List.flatten_nil, List.append_nil]
  after_results_simp
  rfl

/-- The operation after the region puts `out` in the result's buffer. -/
theorem tail_eq (c : Dev nD) :
    Pipeline.afterTail₀ cfgs (dats m) 0 (V0 m) [hostOps1] c main_v90 = out m c := by
  have h := (Pipeline.withArrays_arr (cfgs 0).spec launch0.win.arr_inj c (V0 m c)
    (fun w => (dats m 0 c).arrAt w (cfgs 0).N) 3).trans (Denorm.final m c)
  unfold Pipeline.afterTail₀
  exact (last_eq _).trans (congrArg (fun x : FVec F S14x1x1038240 .f32 =>
    (shapeCast S1x2x7x721x1440 x shapeCasts_S14x1x1038240_S1x2x7x721x1440 : FVec F S1x2x7x721x1440 .f32)) h)

/-- The program's result at a point. -/
theorem out_apply (c : Dev nD) (j : S1x2x7x721x1440.Idx) :
    out m c j = FloatOps.addf (FloatOps.mulf (Operands.field m c (flat j))
      ((m ((c.tc : Thread nD τ).loc main_arg6) : FVec F S7x1x1 .f32) (chan j)))
      ((m ((c.tc : Thread nD τ).loc main_arg5) : FVec F S7x1x1 .f32) (chan j)) := by
  unfold out Denorm.affine
  rw [reshape_apply, Operands.scale_eq, Operands.center_eq, Operands.field_eq]
  show FloatOps.addf (FloatOps.mulf (shapeCast S14x1x1038240 (Operands.field m c)
    shapeCasts_S14x1038240_S14x1x1038240 (flat3 j)) (Operands.spread _ (flat3 j))) (Operands.spread _ (flat3 j)) = _
  rw [field_apply, spread_apply, spread_apply]

end Cert.KernelIdeal.Result

end
-- ==== Proof.Equation.lean ====
/-
  The equation between the two programs' results, at exact arithmetic.

  Both add the channel's centre to the product of the remapped field and the channel's scale; exact multiplication
  commutes.
-/
module

public import proofs.«01_k».proof.Proof.Result

@[expose] public section

noncomputable section

namespace Cert.KernelIdeal.Equation

open Cert.KernelIdeal Cert.KernelIdeal.Gen Idealize.ShloMosaic Idealize.ShloMosaic.TcCoe Idealize.SL.Sem
open Cert.ReferenceIdeal.Read

variable {F : FTy → Type} [FloatOps F]

/-- The reference's result at a point: scale times remapped field, plus centre. -/
theorem ref_apply (x0 : FVec F S1x2x7x721x1440 .f32) (x1 x2 x3 x4 : FVec F S6x64x64 .f32) (x5 x6 : FVec F S7x1x1 .f32)
    (x7 : FVec F S221184 .f32) (x8 : FVec F S4152960 .f32) (x9 : FVec F S14x18 .f32) (x10 x11 : IVec S221184 32)
    (x12 x13 : IVec S4152960 32) (j : S1x2x7x721x1440.Idx) :
    val_main_v82 (F := F) x0 x1 x2 x3 x4 x5 x6 x7 x8 x9 x10 x11 x12 x13 j
      = FloatOps.addf (FloatOps.mulf (x6 (Result.chan j))
          (val_main_v75 (F := F) x0 x1 x2 x3 x4 x5 x6 x7 x8 x9 x10 x11 x12 x13 (Result.flat j)))
        (x5 (Result.chan j)) := by
  have hs : val_main_v78 (F := F) x6 j = x6 (Result.chan j) := by
    rw [val_main_v78_apply, val_main_v77_apply]
    exact congrArg x6 (funext fun a => match a with | ⟨0, _⟩ => rfl | ⟨1, _⟩ => rfl | ⟨2, _⟩ => rfl)
  have hc : val_main_v81 (F := F) x5 j = x5 (Result.chan j) := by
    rw [val_main_v81_apply, val_main_v80_apply]
    exact congrArg x5 (funext fun a => match a with | ⟨0, _⟩ => rfl | ⟨1, _⟩ => rfl | ⟨2, _⟩ => rfl)
  have hf : val_main_v76 (F := F) x0 x1 x2 x3 x4 x5 x6 x7 x8 x9 x10 x11 x12 x13 j
      = val_main_v75 (F := F) x0 x1 x2 x3 x4 x5 x6 x7 x8 x9 x10 x11 x12 x13 (Result.flat j) := by
    unfold val_main_v76
    generalize val_main_v75 (F := F) x0 x1 x2 x3 x4 x5 x6 x7 x8 x9 x10 x11 x12 x13 = y
    refine shapeCast_apply y _ j (Result.flat j) ?_
    rewrite [Shape.rowMajor_val_two, Shape.rowMajor_val_five]
    have h0 : (j 0).val < 1 := (j 0).isLt
    show ((j 1).val * 7 + (j 2).val) * 1038240 + ((j 3).val * 1440 + (j 4).val)
      = ((((j 0).val * 2 + (j 1).val) * 7 + (j 2).val) * 721 + (j 3).val) * 1440 + (j 4).val
    omega
  rw [val_main_v82_apply, val_main_v79_apply, hs, hf, hc]

/-- The program's result is the reference's, of the program's arguments. -/
theorem out_eq (m : (ℓ : Loc nD τ sig) → Buf (Elt Ideal) ℓ) (c : Dev nD) :
    Result.out m c = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  funext j
  rw [Result.out_apply, ref_apply]
  simp only [Ideal.mulf_def]
  rw [mul_comm]

end Cert.KernelIdeal.Equation

end
-- ==== Proof.MixCall.lean ====
/-
  What the channel-mixing call leaves in its output array.

  The call has no grid: every window is a whole array, so the output array is the body's result of the whole operands.
-/
module

public import proofs.«01_k».proof.Proof.Gen.MixIdeal.Value
public import Idealize.ShloMosaic.Lib.Pipeline.ValueKit

@[expose] public section

noncomputable section

namespace Cert.MixIdeal.Call

open Cert.MixIdeal Cert.MixIdeal.Gen Idealize.ShloMosaic Idealize.ShloMosaic.TcCoe Idealize.SL.Sem

variable {F : FTy → Type} [FloatOps F]

/-- The body's result: the raw channels and row sums `x0`, latitude `x1`, longitude `x2`, mask `x3`, height `x4`,
    weights `x5`, centres `x6`, scales `x7`. -/
def body (x0 : FVec F S15x24576 .f32) (x1 x2 x3 x4 : FVec F S1x24576 .f32) (x5 : FVec F S14x18 .f32)
    (x6 x7 : FVec F S14x1 .f32) : FVec F S14x24576 .f32 :=
  k0_pay1 (k0_pay2 x0 x6 x7) (k0_pay5 x1 x2) (k0_pay6 x1 x2) (k0_pay7 x4) x5 x3 x7

/-! ## A window that is its whole array reads the array -/

/-- Window 0. -/
theorem read0 (X : FVec F S15x24576 .f32) (t : Fin cfg0.N) : ((cfg0.win 0).blk t).view.read (Elt F) X = X :=
  funext fun y => congrArg X (funext fun a => Fin.ext
    ((show ((win0_0.blk t).view.emb y a).val = 0 * S15x24576.size a + 1 * (y a).val from rfl).trans (by omega)))

/-- Window 1. -/
theorem read1 (X : FVec F S1x24576 .f32) (t : Fin cfg0.N) : ((cfg0.win 1).blk t).view.read (Elt F) X = X :=
  funext fun y => congrArg X (funext fun a => Fin.ext
    ((show ((win0_1.blk t).view.emb y a).val = 0 * S1x24576.size a + 1 * (y a).val from rfl).trans (by omega)))

/-- Window 2. -/
theorem read2 (X : FVec F S1x24576 .f32) (t : Fin cfg0.N) : ((cfg0.win 2).blk t).view.read (Elt F) X = X :=
  funext fun y => congrArg X (funext fun a => Fin.ext
    ((show ((win0_2.blk t).view.emb y a).val = 0 * S1x24576.size a + 1 * (y a).val from rfl).trans (by omega)))

/-- Window 3. -/
theorem read3 (X : FVec F S1x24576 .f32) (t : Fin cfg0.N) : ((cfg0.win 3).blk t).view.read (Elt F) X = X :=
  funext fun y => congrArg X (funext fun a => Fin.ext
    ((show ((win0_3.blk t).view.emb y a).val = 0 * S1x24576.size a + 1 * (y a).val from rfl).trans (by omega)))

/-- Window 4. -/
theorem read4 (X : FVec F S1x24576 .f32) (t : Fin cfg0.N) : ((cfg0.win 4).blk t).view.read (Elt F) X = X :=
  funext fun y => congrArg X (funext fun a => Fin.ext
    ((show ((win0_4.blk t).view.emb y a).val = 0 * S1x24576.size a + 1 * (y a).val from rfl).trans (by omega)))

/-- Window 5. -/
theorem read5 (X : FVec F S14x18 .f32) (t : Fin cfg0.N) : ((cfg0.win 5).blk t).view.read (Elt F) X = X :=
  funext fun y => congrArg X (funext fun a => Fin.ext
    ((show ((win0_5.blk t).view.emb y a).val = 0 * S14x18.size a + 1 * (y a).val from rfl).trans (by omega)))

/-- Window 6. -/
theorem read6 (X : FVec F S14x1 .f32) (t : Fin cfg0.N) : ((cfg0.win 6).blk t).view.read (Elt F) X = X :=
  funext fun y => congrArg X (funext fun a => Fin.ext
    ((show ((win0_6.blk t).view.emb y a).val = 0 * S14x1.size a + 1 * (y a).val from rfl).trans (by omega)))

/-- Window 7. -/
theorem read7 (X : FVec F S14x1 .f32) (t : Fin cfg0.N) : ((cfg0.win 7).blk t).view.read (Elt F) X = X :=
  funext fun y => congrArg X (funext fun a => Fin.ext
    ((show ((win0_7.blk t).view.emb y a).val = 0 * S14x1.size a + 1 * (y a).val from rfl).trans (by omega)))

/-- The output window's block is the whole array. -/
theorem place8 (t : Fin cfg0.N) (y : S14x24576.Idx) : ((View.whole main_v14).slice (win0_8.rect t)).emb y = y :=
  funext fun a => Fin.ext
    ((show (((View.whole main_v14).slice (win0_8.rect t)).emb y a).val = 0 * S14x24576.size a + 1 * (y a).val from rfl).trans
      (by omega))

variable (m : (ℓ : Loc nD τ sig) → Buf (Elt F) ℓ)

/-- The body's result of the operands as the call finds them. -/
def mixed (c : Dev nD) : FVec F S14x24576 .f32 :=
  body (V m c main_arg0) (V m c main_v10) (V m c main_v11) (V m c main_v12) (V m c main_v13) (V m c main_arg7)
    (V m c main_v5) (V m c main_v9)

/-- At its single point the body's result of the blocks is its result of the arrays. -/
theorem body_blocks (X0 : FVec F S15x24576 .f32) (X1 X2 X3 X4 : FVec F S1x24576 .f32) (X5 : FVec F S14x18 .f32)
    (X6 X7 : FVec F S14x1 .f32) (t : Fin cfg0.N) (y : S14x24576.Idx) :
    body (((cfg0.win 0).blk t).view.read (Elt F) X0) (((cfg0.win 1).blk t).view.read (Elt F) X1)
      (((cfg0.win 2).blk t).view.read (Elt F) X2) (((cfg0.win 3).blk t).view.read (Elt F) X3)
      (((cfg0.win 4).blk t).view.read (Elt F) X4) (((cfg0.win 5).blk t).view.read (Elt F) X5)
      (((cfg0.win 6).blk t).view.read (Elt F) X6) (((cfg0.win 7).blk t).view.read (Elt F) X7) y
      = body X0 X1 X2 X3 X4 X5 X6 X7 (((View.whole main_v14).slice (win0_8.rect t)).emb y) := by
  rw [place8, read0, read1, read2, read3, read4, read5, read6, read7]

/-- After the call the output array is `mixed`. -/
theorem final (c : Dev nD) : (dats m 0 c).arrAt 8 cfg0.N = mixed m c := by
  refine (dats m 0 c).arrAt_eq_of_covers 8 _ (by decide +kernel) fun t hf y => ?_
  blk_simp
  rw [after0_8]
  frame_out
  exact body_blocks (V m c main_arg0) (V m c main_v10) (V m c main_v11) (V m c main_v12) (V m c main_v13)
    (V m c main_arg7) (V m c main_v5) (V m c main_v9) t y

end Cert.MixIdeal.Call

end
-- ==== Proof.MixBody.lean ====
/-
  The channel-mixing call at a point, at exact arithmetic.

  The point `p` of the flattened cubed sphere is face `p / 4096`, row `p / 64 % 64`, column `p % 64`; the row `r` of the
  stacked channels is time step `r / 7`, channel `r % 7`.
-/
module

public import proofs.«01_k».proof.Proof.MixCall
public import Idealize.ShloMosaic.Lib.Pointwise

@[expose] public section

noncomputable section

namespace Cert.MixIdeal.Call

open Cert.MixIdeal Cert.MixIdeal.Gen Idealize.ShloMosaic Idealize.ShloMosaic.TcCoe Idealize.SL.Sem

/-! ## The mathematics at a point -/

/-- Face, row and column of a point of the flattened cubed sphere. -/
def place (p : Fin 24576) : S6x64x64.Idx :=
  ix3 ⟨p.val / 4096, by omega⟩ ⟨p.val / 64 % 64, by omega⟩ ⟨p.val % 64, by omega⟩

/-- The channel of a row of the stacked channels. -/
def chan (r : Fin 14) : S7x1x1.Idx := ix3 ⟨r.val % 7, by omega⟩ 0 0

/-- The normalised field: the channel less its centre times the row sum, over the scale. -/
def field (x0 : FVec Ideal S15x24576 .f32) (a5 a6 : FVec Ideal S7x1x1 .f32) (r : Fin 14) (p : Fin 24576) : EReal :=
  Ideal.div (x0 (ix2 ⟨r.val, by omega⟩ p) - a5 (chan r) * x0 (ix2 14 p)) (a6 (chan r))

/-- The insolation at the first step, of a latitude and a longitude in degrees. -/
def sunFirst (a b : EReal) : EReal :=
  max (Ideal.cos (a * Ideal.ofBits .f32 0x3C8EFA35#32) * Ideal.cos (b * Ideal.ofBits .f32 0x3C8EFA35#32)) 0
    - Ideal.ofBits .f32 0x3EA2F983#32

/-- The insolation at the second step: the hour angle has moved on. -/
def sunSecond (a b : EReal) : EReal :=
  max (Ideal.cos (a * Ideal.ofBits .f32 0x3C8EFA35#32)
      * Ideal.cos (b * Ideal.ofBits .f32 0x3C8EFA35#32 + Ideal.ofBits .f32 0x3F000000#32)) 0
    - Ideal.ofBits .f32 0x3EA2F983#32

/-- The standardised height. -/
def height (a : EReal) : EReal := Ideal.div (a - Ideal.ofBits .f32 0x4568C000#32) (Ideal.ofBits .f32 0x46027400#32)

/-- The mixed channel `r` at the point `p`, rescaled. -/
def mixedAt (x0 : FVec Ideal S15x24576 .f32) (a1 a2 a3 a4 : FVec Ideal S6x64x64 .f32) (a5 a6 : FVec Ideal S7x1x1 .f32)
    (x7 : FVec Ideal S14x18 .f32) (r : Fin 14) (p : Fin 24576) : EReal :=
  ((∑ c : Fin 7, x7 (ix2 r ⟨c.val, by omega⟩) * field x0 a5 a6 ⟨c.val, by omega⟩ p)
    + (∑ c : Fin 7, x7 (ix2 r ⟨8 + c.val, by omega⟩) * field x0 a5 a6 ⟨7 + c.val, by omega⟩ p)
    + x7 (ix2 r 7) * sunFirst (a3 (place p)) (a4 (place p))
    + x7 (ix2 r 15) * sunSecond (a3 (place p)) (a4 (place p))
    + x7 (ix2 r 16) * a1 (place p)
    + x7 (ix2 r 17) * height (a2 (place p))) * a6 (chan r)

/-! ## The body's parts at a point -/

/-- The normalised channels. -/
theorem field_apply (x0 : FVec Ideal S15x24576 .f32) (x6 x7 : FVec Ideal S14x1 .f32) (r : Fin 14) (p : Fin 24576) :
    k0_pay2 (F := Ideal) x0 x6 x7 (ix2 r p)
      = Ideal.div (x0 (ix2 ⟨r.val, by omega⟩ p) - x6 (ix2 r 0) * x0 (ix2 14 p)) (x7 (ix2 r 0)) := by
  pointwise [k0_pay2]

/-- The first insolation. -/
theorem sunFirst_apply (x1 x2 : FVec Ideal S1x24576 .f32) (p : Fin 24576) :
    k0_pay5 (F := Ideal) x1 x2 (ix2 0 p) = sunFirst (x1 (ix2 0 p)) (x2 (ix2 0 p)) := by
  unfold sunFirst
  pointwise [k0_pay5, k0_pay4, k0_pay3]

/-- The second insolation. -/
theorem sunSecond_apply (x1 x2 : FVec Ideal S1x24576 .f32) (p : Fin 24576) :
    k0_pay6 (F := Ideal) x1 x2 (ix2 0 p) = sunSecond (x1 (ix2 0 p)) (x2 (ix2 0 p)) := by
  unfold sunSecond
  pointwise [k0_pay6, k0_pay4, k0_pay3]

/-- The body of its parts. -/
theorem parts_apply (f : FVec Ideal S14x24576 .f32) (s0 s1 x3 x4 : FVec Ideal S1x24576 .f32)
    (x5 : FVec Ideal S14x18 .f32) (x7 : FVec Ideal S14x1 .f32) (r : Fin 14) (p : Fin 24576) :
    k0_pay1 (F := Ideal) f s0 s1 (k0_pay7 x4) x5 x3 x7 (ix2 r p)
      = ((∑ c : Fin 7, x5 (ix2 r ⟨c.val, by omega⟩) * f (ix2 ⟨c.val, by omega⟩ p))
        + (∑ c : Fin 7, x5 (ix2 r ⟨8 + c.val, by omega⟩) * f (ix2 ⟨7 + c.val, by omega⟩ p))
        + x5 (ix2 r 7) * s0 (ix2 0 p) + x5 (ix2 r 15) * s1 (ix2 0 p) + x5 (ix2 r 16) * x3 (ix2 0 p)
        + x5 (ix2 r 17) * height (x4 (ix2 0 p))) * x7 (ix2 r 0) := by
  unfold height
  pointwise [k0_pay1, k0_pay7]

/-! ## The operands at a point -/

/-- A field of the cubed sphere, flattened. -/
def flat {F : FTy → Type} (a : FVec F S6x64x64 .f32) : FVec F S1x24576 .f32 :=
  shapeCast S1x24576 a shapeCasts_S6x64x64_S1x24576

/-- A constant of each channel, repeated for the two steps. -/
def tiled {F : FTy → Type} (a : FVec F S7x1x1 .f32) : FVec F S14x1 .f32 :=
  shapeCast S14x1 (shapeCast S14 (broadcastInDim S2x7 ![0, 1] bcast_S1x7_S2x7_0_1 (shapeCast S1x7 (shapeCast S7 a shapeCasts_S7x1x1_S7)
    shapeCasts_S7_S1x7)) shapeCasts_S2x7_S14) shapeCasts_S14_S14x1

/-- A flattened field at a point. -/
theorem flat_apply (a : FVec Ideal S6x64x64 .f32) (p : Fin 24576) : flat a (ix2 0 p) = a (place p) := by
  unfold place
  pointwise [flat]

/-- A repeated constant at a row. -/
theorem tiled_apply (a : FVec Ideal S7x1x1 .f32) (r : Fin 14) : tiled a (ix2 r 0) = a (chan r) := by
  unfold chan
  pointwise [tiled]

variable (m : (ℓ : Loc nD τ sig) → Buf (Elt Ideal) ℓ) (c : Dev nD)

/-- The centres. -/
theorem operand5 : (V m c main_v5 : FVec Ideal S14x1 .f32) = tiled (F := Ideal) (m ((c.tc : Thread nD τ).loc main_arg5)) := by
  unfold V hostOps0
  after_results_simp
  rfl

/-- The scales. -/
theorem operand9 : (V m c main_v9 : FVec Ideal S14x1 .f32) = tiled (F := Ideal) (m ((c.tc : Thread nD τ).loc main_arg6)) := by
  unfold V hostOps0
  after_results_simp
  rfl

/-- The latitude. -/
theorem operand10 : (V m c main_v10 : FVec Ideal S1x24576 .f32) = flat (F := Ideal) (m ((c.tc : Thread nD τ).loc main_arg3)) := by
  unfold V hostOps0
  after_results_simp
  rfl

/-- The longitude. -/
theorem operand11 : (V m c main_v11 : FVec Ideal S1x24576 .f32) = flat (F := Ideal) (m ((c.tc : Thread nD τ).loc main_arg4)) := by
  unfold V hostOps0
  after_results_simp
  rfl

/-- The mask. -/
theorem operand12 : (V m c main_v12 : FVec Ideal S1x24576 .f32) = flat (F := Ideal) (m ((c.tc : Thread nD τ).loc main_arg1)) := by
  unfold V hostOps0
  after_results_simp
  rfl

/-- The height. -/
theorem operand13 : (V m c main_v13 : FVec Ideal S1x24576 .f32) = flat (F := Ideal) (m ((c.tc : Thread nD τ).loc main_arg2)) := by
  unfold V hostOps0
  after_results_simp
  rfl

/-- The raw channels. -/
theorem operand0 : V m c main_arg0 = m ((c.tc : Thread nD τ).loc main_arg0) := by
  unfold V hostOps0
  after_results_simp

/-- The weights. -/
theorem operand7 : V m c main_arg7 = m ((c.tc : Thread nD τ).loc main_arg7) := by
  unfold V hostOps0
  after_results_simp

/-- The call's result at a point, of whole operands. -/
theorem body_apply (x0 : FVec Ideal S15x24576 .f32) (a1 a2 a3 a4 : FVec Ideal S6x64x64 .f32) (a5 a6 : FVec Ideal S7x1x1 .f32)
    (x7 : FVec Ideal S14x18 .f32) (r : Fin 14) (p : Fin 24576) :
    body (F := Ideal) x0 (flat a3) (flat a4) (flat a1) (flat a2) x7 (tiled a5) (tiled a6) (ix2 r p)
      = mixedAt x0 a1 a2 a3 a4 a5 a6 x7 r p := by
  unfold body mixedAt field
  rw [parts_apply]
  simp only [field_apply, sunFirst_apply, sunSecond_apply, flat_apply, tiled_apply]

/-- The call's result is the rescaled mixture at every point. -/
theorem mixed_apply (r : Fin 14) (p : Fin 24576) :
    mixed m c (ix2 r p) = mixedAt (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) r p := by
  unfold mixed
  rw [operand0, operand5, operand7, operand9, operand10, operand11, operand12, operand13]
  exact body_apply _ _ _ _ _ _ _ _ r p

end Cert.MixIdeal.Call

end
-- ==== Proof.MixRef.lean ====
/-
  The reference of the channel-mixing call at a point, at exact arithmetic, and the equation with the call.

  The reference sums the eighteen channels in their order; the call sums the fourteen field channels first.  Sums of
  extended reals do not depend on the order, products not on the side; no other law is used.
-/
module

public import proofs.«01_k».proof.Proof.MixBody
public import proofs.«01_k».proof.Proof.Gen.MixReferenceIdeal.Read
public import Idealize.ShloMosaic.Lib.Pointwise

@[expose] public section

noncomputable section

namespace Cert.MixReferenceIdeal.Mix

open Cert.MixReferenceIdeal Cert.MixReferenceIdeal.Read Idealize.ShloMosaic Idealize.ShloMosaic.TcCoe Idealize.SL.Sem
open Cert.MixIdeal.Call (place chan field sunFirst sunSecond height mixedAt)

/-- The normalised field of step `s`, channel `c`. -/
theorem field_apply (x0 : FVec Ideal S15x24576 .f32) (x5 x6 : FVec Ideal S7x1x1 .f32) (s : Fin 2) (c : Fin 7)
    (f : Fin 6) (h w : Fin 64) :
    val_main_v16 (F := Ideal) x0 x5 x6 (ix6 0 s c f h w)
      = Ideal.div (x0 (ix2 ⟨s.val * 7 + c.val, by omega⟩ ⟨f.val * 4096 + h.val * 64 + w.val, by omega⟩)
          - x5 (ix3 c 0 0) * x0 (ix2 14 ⟨f.val * 4096 + h.val * 64 + w.val, by omega⟩)) (x6 (ix3 c 0 0)) := by
  pointwise [val_main_v16, val_main_v15, val_main_v14, val_main_v13, val_main_v12, val_main_v11, val_main_v10,
    val_main_v9, val_main_v8, val_main_v7, val_main_v6, val_main_v5, val_main_v4, val_main_v3, val_main_v2, val_main_v1,
    val_main_v0]

/-- The same at a point of the flattened cubed sphere. -/
theorem field_place (x0 : FVec Ideal S15x24576 .f32) (x5 x6 : FVec Ideal S7x1x1 .f32) (s : Fin 2) (c : Fin 7)
    (p : Fin 24576) :
    val_main_v16 (F := Ideal) x0 x5 x6
        (ix6 0 s c ⟨p.val / 4096, by omega⟩ ⟨p.val / 64 % 64, by omega⟩ ⟨p.val % 64, by omega⟩)
      = field x0 x5 x6 ⟨s.val * 7 + c.val, by omega⟩ p := by
  rw [field_apply]
  unfold field chan
  have hp : (⟨p.val / 4096 * 4096 + p.val / 64 % 64 * 64 + p.val % 64, by omega⟩ : Fin 24576) = p :=
    Fin.ext (show p.val / 4096 * 4096 + p.val / 64 % 64 * 64 + p.val % 64 = p.val by omega)
  have hc : (⟨(s.val * 7 + c.val) % 7, by omega⟩ : Fin 7) = c :=
    Fin.ext (show (s.val * 7 + c.val) % 7 = c.val by omega)
  simp only [hp, hc]

/-- The first insolation. -/
theorem sunFirst_apply (x3 x4 : FVec Ideal S6x64x64 .f32) (f : Fin 6) (h w : Fin 64) :
    val_main_v29 (F := Ideal) x3 x4 (ix3 f h w) = sunFirst (x3 (ix3 f h w)) (x4 (ix3 f h w)) := by
  unfold sunFirst
  pointwise [val_main_v29, val_main_v28, val_main_v27, val_main_v26, val_main_v25, val_main_v24, val_main_v23,
    val_main_v22, val_main_v21, val_main_v20, val_main_v19, val_main_v18, val_main_v17, val_main_cst, val_main_cst_0,
    val_main_cst_1, val_main_cst_2, val_main_cst_3]

/-- The second insolation. -/
theorem sunSecond_apply (x3 x4 : FVec Ideal S6x64x64 .f32) (f : Fin 6) (h w : Fin 64) :
    val_main_v46 (F := Ideal) x3 x4 (ix3 f h w) = sunSecond (x3 (ix3 f h w)) (x4 (ix3 f h w)) := by
  unfold sunSecond
  pointwise [val_main_v46, val_main_v45, val_main_v44, val_main_v43, val_main_v42, val_main_v41, val_main_v40,
    val_main_v39, val_main_v38, val_main_v37, val_main_v36, val_main_v35, val_main_v34, val_main_cst_4, val_main_cst_5,
    val_main_cst_6, val_main_cst_7, val_main_cst_8]

/-- The standardised height. -/
theorem height_apply (x2 : FVec Ideal S6x64x64 .f32) (f : Fin 6) (h w : Fin 64) :
    val_main_v57 (F := Ideal) x2 (ix5 0 0 f h w) = height (x2 (ix3 f h w)) := by
  unfold height
  pointwise [val_main_v57, val_main_v56, val_main_v55, val_main_v54, val_main_v53, val_main_cst_9, val_main_cst_10]

/-- Which field each of the eighteen input channels is. -/
theorem inp_apply (x0 : FVec Ideal S15x24576 .f32) (x1 x2 x3 x4 : FVec Ideal S6x64x64 .f32)
    (x5 x6 : FVec Ideal S7x1x1 .f32) (k : Fin 18) (f : Fin 6) (h w : Fin 64) :
    val_main_v58 (F := Ideal) x0 x1 x2 x3 x4 x5 x6 (ix5 0 k f h w)
      = if h1 : k.val < 16 then
          if h2 : k.val < 8 then
            if h3 : k.val < 7 then val_main_v16 (F := Ideal) x0 x5 x6 (ix6 0 0 ⟨k.val, h3⟩ f h w)
            else val_main_v29 (F := Ideal) x3 x4 (ix3 f h w)
          else
            if h3 : k.val - 8 < 7 then val_main_v16 (F := Ideal) x0 x5 x6 (ix6 0 1 ⟨k.val - 8, h3⟩ f h w)
            else val_main_v46 (F := Ideal) x3 x4 (ix3 f h w)
        else if h2 : k.val - 16 < 1 then x1 (ix3 f h w)
        else val_main_v57 (F := Ideal) x2 (ix5 0 ⟨k.val - 16 - 1, by omega⟩ f h w) := by
  unfold val_main_v58 val_main_v51 val_main_v50 val_main_v49 val_main_v48 val_main_v33 val_main_v32 val_main_v31
  pointwise [val_main_v52, val_main_v47, val_main_v30]

/-- The stacked, rescaled result of the eighteen input channels. -/
theorem out_apply (x0 : FVec Ideal S15x24576 .f32) (x1 x2 x3 x4 : FVec Ideal S6x64x64 .f32)
    (x5 x6 : FVec Ideal S7x1x1 .f32) (x7 : FVec Ideal S14x18 .f32) (r : Fin 14) (p : Fin 24576) :
    val_main_v70 (F := Ideal) x0 x1 x2 x3 x4 x5 x6 x7 (ix2 r p)
      = (∑ k : Fin 18, val_main_v58 (F := Ideal) x0 x1 x2 x3 x4 x5 x6
            (ix5 0 k ⟨p.val / 4096, by omega⟩ ⟨p.val / 64 % 64, by omega⟩ ⟨p.val % 64, by omega⟩) * x7 (ix2 r k))
          * x6 (chan r) := by
  unfold val_main_v70 val_main_v69 val_main_v65 val_main_v64 val_main_v63 val_main_v62 val_main_v61 val_main_v60
    val_main_v59 chan
  generalize val_main_v58 (F := Ideal) x0 x1 x2 x3 x4 x5 x6 = y
  have low : ∀ h : r.val / 7 < 1, (⟨r.val % 7, by omega⟩ : Fin 14) = r := fun h =>
    Fin.ext (show r.val % 7 = r.val by omega)
  have high : ¬ r.val / 7 < 1 → (⟨7 + r.val % 7, by omega⟩ : Fin 14) = r := fun h =>
    Fin.ext (show 7 + r.val % 7 = r.val by omega)
  pointwise [val_main_v68, val_main_v67, val_main_v66]
  split
  · rename_i h
    simp only [low h]
  · rename_i h
    simp only [high h]

/-- Eighteen terms in their order are the seven of each step and the four others. -/
theorem sum_split (g : Fin 18 → EReal) :
    ∑ k : Fin 18, g k
      = (∑ c : Fin 7, g ⟨c.val, by omega⟩) + (∑ c : Fin 7, g ⟨8 + c.val, by omega⟩) + g 7 + g 15 + g 16 + g 17 := by
  obtain ⟨G, hG⟩ : ∃ G : ℕ → EReal, ∀ k : Fin 18, g k = G k.val :=
    ⟨fun n => if hn : n < 18 then g ⟨n, hn⟩ else 0, fun k => by simp⟩
  simp only [hG]
  rw [Fin.sum_univ_eq_sum_range G 18, Fin.sum_univ_eq_sum_range G 7, Fin.sum_univ_eq_sum_range (fun n => G (8 + n)) 7]
  simp only [Finset.sum_range_succ, Finset.sum_range_zero]
  change _ = _ + _ + G 7 + G 15 + G 16 + G 17
  norm_num
  abel

/-- The reference's result is the rescaled mixture at every point. -/
theorem result_apply (x0 : FVec Ideal S15x24576 .f32) (x1 x2 x3 x4 : FVec Ideal S6x64x64 .f32)
    (x5 x6 : FVec Ideal S7x1x1 .f32) (x7 : FVec Ideal S14x18 .f32) (r : Fin 14) (p : Fin 24576) :
    val_main_v70 (F := Ideal) x0 x1 x2 x3 x4 x5 x6 x7 (ix2 r p) = mixedAt x0 x1 x2 x3 x4 x5 x6 x7 r p := by
  rw [out_apply, sum_split]
  unfold mixedAt
  have first (c : Fin 7) : val_main_v58 (F := Ideal) x0 x1 x2 x3 x4 x5 x6
      (ix5 0 ⟨c.val, by omega⟩ ⟨p.val / 4096, by omega⟩ ⟨p.val / 64 % 64, by omega⟩ ⟨p.val % 64, by omega⟩)
        = field x0 x5 x6 ⟨c.val, by omega⟩ p := by
    rw [inp_apply, dif_pos (show c.val < 16 by omega), dif_pos (show c.val < 8 by omega), dif_pos c.isLt, field_place]
    exact congrArg (fun i => field x0 x5 x6 i p) (Fin.ext (show 0 * 7 + c.val = c.val by omega))
  have second (c : Fin 7) : val_main_v58 (F := Ideal) x0 x1 x2 x3 x4 x5 x6
      (ix5 0 ⟨8 + c.val, by omega⟩ ⟨p.val / 4096, by omega⟩ ⟨p.val / 64 % 64, by omega⟩ ⟨p.val % 64, by omega⟩)
        = field x0 x5 x6 ⟨7 + c.val, by omega⟩ p := by
    rw [inp_apply, dif_pos (show 8 + c.val < 16 by omega), dif_neg (show ¬ 8 + c.val < 8 by omega),
      dif_pos (show 8 + c.val - 8 < 7 by omega), field_place]
    exact congrArg (fun i => field x0 x5 x6 i p) (Fin.ext (show 1 * 7 + (8 + c.val - 8) = 7 + c.val by omega))
  have h7 : val_main_v58 (F := Ideal) x0 x1 x2 x3 x4 x5 x6
      (ix5 0 7 ⟨p.val / 4096, by omega⟩ ⟨p.val / 64 % 64, by omega⟩ ⟨p.val % 64, by omega⟩)
        = sunFirst (x3 (place p)) (x4 (place p)) := (inp_apply ..).trans (sunFirst_apply ..)
  have h15 : val_main_v58 (F := Ideal) x0 x1 x2 x3 x4 x5 x6
      (ix5 0 15 ⟨p.val / 4096, by omega⟩ ⟨p.val / 64 % 64, by omega⟩ ⟨p.val % 64, by omega⟩)
        = sunSecond (x3 (place p)) (x4 (place p)) := (inp_apply ..).trans (sunSecond_apply ..)
  have h16 : val_main_v58 (F := Ideal) x0 x1 x2 x3 x4 x5 x6
      (ix5 0 16 ⟨p.val / 4096, by omega⟩ ⟨p.val / 64 % 64, by omega⟩ ⟨p.val % 64, by omega⟩)
        = x1 (place p) := inp_apply ..
  have h17 : val_main_v58 (F := Ideal) x0 x1 x2 x3 x4 x5 x6
      (ix5 0 17 ⟨p.val / 4096, by omega⟩ ⟨p.val / 64 % 64, by omega⟩ ⟨p.val % 64, by omega⟩)
        = height (x2 (place p)) := (inp_apply ..).trans (height_apply ..)
  simp only [first, second, h7, h15, h16, h17, mul_comm _ (x7 _)]

/-- The call's result is the reference's. -/
theorem mixed_eq (m : (ℓ : Loc Cert.MixIdeal.nD Cert.MixIdeal.τ Cert.MixIdeal.sig) → Buf (Elt Ideal) ℓ)
    (c : Dev Cert.MixIdeal.nD) :
    Cert.MixIdeal.Call.mixed m c
      = val_main_v70 (F := Ideal)
        (m ((c.tc : Thread Cert.MixIdeal.nD Cert.MixIdeal.τ).loc Cert.MixIdeal.main_arg0))
        (m ((c.tc : Thread Cert.MixIdeal.nD Cert.MixIdeal.τ).loc Cert.MixIdeal.main_arg1))
        (m ((c.tc : Thread Cert.MixIdeal.nD Cert.MixIdeal.τ).loc Cert.MixIdeal.main_arg2))
        (m ((c.tc : Thread Cert.MixIdeal.nD Cert.MixIdeal.τ).loc Cert.MixIdeal.main_arg3))
        (m ((c.tc : Thread Cert.MixIdeal.nD Cert.MixIdeal.τ).loc Cert.MixIdeal.main_arg4))
        (m ((c.tc : Thread Cert.MixIdeal.nD Cert.MixIdeal.τ).loc Cert.MixIdeal.main_arg5))
        (m ((c.tc : Thread Cert.MixIdeal.nD Cert.MixIdeal.τ).loc Cert.MixIdeal.main_arg6))
        (m ((c.tc : Thread Cert.MixIdeal.nD Cert.MixIdeal.τ).loc Cert.MixIdeal.main_arg7)) := by
  funext j
  obtain ⟨r, p, rfl⟩ : ∃ (r : Fin 14) (p : Fin 24576), j = ix2 r p := ⟨j 0, j 1, by
    funext a
    match a with
    | 0 => rfl
    | 1 => rfl⟩
  rw [Cert.MixIdeal.Call.mixed_apply, result_apply]

end Cert.MixReferenceIdeal.Mix

end
-- ==== Proof.lean ====
/-
  The claims of the certificate: the kernel, at bits and at exact arithmetic, and the reference end with their arguments
  unchanged; the kernel at exact arithmetic is the kernel's own text; and its result is the reference's.  Then the same
  five claims for the channel-mixing call of the later version, taken on its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import Idealize.ShloMosaic.Adequacy
public import Idealize.ShloMosaic.Init
public import proofs.«01_k».proof.Proof.Equation
public import proofs.«01_k».proof.Proof.MixRef

@[expose] public section

noncomputable section

namespace Cert.Proof

open Idealize.ShloMosaic Idealize.SL.Sem

/-- The run of the kernel at exact arithmetic: the result is `Result.out`, the arguments are unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v90)
          = Cert.KernelIdeal.Result.out m c) :=
  (θ_run Cert.KernelIdeal.defs _ _).mono (fun _ h c =>
    ((h c).2 Cert.KernelIdeal.main_v90 (Pipeline.mem_restRefs_of Cert.KernelIdeal.main_v90 (by decide) (by decide))).trans
      (Cert.KernelIdeal.Result.tail_eq m c))
    (Cert.KernelIdeal.Gen.run_main m g)

/-- Every execution of the reference ends with its arguments unchanged; it declares no counter. -/
theorem frame_reference : Cert.quiescent_ReferenceIdeal (hReferenceIdeal := Cert.ReferenceIdeal.Gen.facts) := by
  intro m g _
  exact (θ_run Cert.ReferenceIdeal.defs _ _).mono (fun r h => ⟨fun c => (h c).2,
    Idealize.ShloMosaic.sem_eq_zero_of_no_sems (by decide) r.2⟩) (Cert.ReferenceIdeal.Value.run (F := Ideal) m g)

/-- From equal arguments the kernel and the reference end with the same result, at exact arithmetic. -/
theorem value : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Result.out m c, ?_, ?_⟩
  · exact (θ_run Cert.KernelIdeal.defs _ _).mono (fun _ h c => ⟨h.1 c, h.2 c⟩)
      (θ_run_and (kernel_run m g) (Cert.KernelIdeal.Gen.unchanged (F := Ideal) m g))
  · refine (θ_run Cert.ReferenceIdeal.defs _ _).mono (fun _ h c => ⟨(h c).1.trans ?_, (h c).2⟩)
      (Cert.ReferenceIdeal.Value.run (F := Ideal) m' g')
    obtain ⟨h0, h1, h2, h3, h4, h5, h6, h7, h8, h9, h10, h11, h12, h13⟩ := hagree c
    rw [Cert.ReferenceIdeal.Read.val_main_v82_eq, h0, h1, h2, h3, h4, h5, h6, h7, h8, h9, h10, h11, h12, h13]
    exact (Cert.KernelIdeal.Equation.out_eq m c).symm

/-! ## The channel-mixing call, on its own -/

/-- Every execution of the mixing reference ends with its arguments unchanged; it declares no counter. -/
theorem mix_frame_reference :
    Cert.quiescent_MixReferenceIdeal (hMixReferenceIdeal := Cert.MixReferenceIdeal.Gen.facts) := by
  intro m g _
  exact (θ_run Cert.MixReferenceIdeal.defs _ _).mono (fun r h => ⟨fun c => (h c).2,
    Idealize.ShloMosaic.sem_eq_zero_of_no_sems (by decide) r.2⟩) (Cert.MixReferenceIdeal.Value.run (F := Ideal) m g)

/-- The run of the mixing call at exact arithmetic: the result is the body's of the whole operands. -/
theorem mix_run (m : (ℓ : Loc Cert.MixIdeal.nD Cert.MixIdeal.τ Cert.MixIdeal.sig) → Buf (Elt Ideal) ℓ)
    (g : Dev Cert.MixIdeal.nD → PrngReg) :
    θ_run (Cert.MixIdeal.defs (F := Ideal)) (onTc (τ := Cert.MixIdeal.τ) (Cert.MixIdeal.main (F := Ideal)))
      ⟨m, fun _ => 0, g⟩ (fun r => ∀ c : Dev Cert.MixIdeal.nD,
        r.2.mem ((c.tc : Thread Cert.MixIdeal.nD Cert.MixIdeal.τ).loc Cert.MixIdeal.main_v14)
          = Cert.MixIdeal.Call.mixed m c) :=
  (θ_run Cert.MixIdeal.defs _ _).mono (fun _ h c => (h c).1.trans (Cert.MixIdeal.Call.final m c))
    (Cert.MixIdeal.Value.run_blocks (F := Ideal) m g)

/-- From equal arguments the mixing call and its reference end with the same result, at exact arithmetic. -/
theorem mix_value : Cert.algebraic_MixIdeal_MixReferenceIdeal (hMixIdeal := Cert.MixIdeal.Gen.facts)
    (hMixReferenceIdeal := Cert.MixReferenceIdeal.Gen.facts) := by
  intro m g m' g' _ hagree
  refine ⟨fun c => Cert.MixIdeal.Call.mixed m c, ?_, ?_⟩
  · exact (θ_run Cert.MixIdeal.defs _ _).mono (fun _ h c => ⟨h.1 c, h.2 c⟩)
      (θ_run_and (mix_run m g) (Cert.MixIdeal.Gen.unchanged (F := Ideal) m g))
  · refine (θ_run Cert.MixReferenceIdeal.defs _ _).mono (fun _ h c => ⟨(h c).1.trans ?_, (h c).2⟩)
      (Cert.MixReferenceIdeal.Value.run (F := Ideal) m' g')
    obtain ⟨h0, h1, h2, h3, h4, h5, h6, h7⟩ := hagree c
    rw [Cert.MixReferenceIdeal.Read.val_main_v70_eq, h0, h1, h2, h3, h4, h5, h6, h7]
    exact (Cert.MixReferenceIdeal.Mix.mixed_eq m c).symm

/-- The ten claims. -/
theorem claim : Cert.Claim :=
  ⟨Cert.Kernel.Gen.facts, Cert.KernelIdeal.Gen.facts, Cert.ReferenceIdeal.Gen.facts,
    Cert.Mix.Gen.facts, Cert.MixIdeal.Gen.facts, Cert.MixReferenceIdeal.Gen.facts,
    fun m g _ => Cert.Kernel.Gen.frame m g, fun m g _ => Cert.KernelIdeal.Gen.frame m g, frame_reference,
    fun m g _ => Cert.Mix.Gen.frame m g, fun m g _ => Cert.MixIdeal.Gen.frame m g, mix_frame_reference,
    trivial, value, trivial, mix_value⟩

end Cert.Proof

end
